-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope" .f32 0xBE135D8E#32 ((-((Real.log 10000) * 64⁻¹) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_ReferenceIdeal.lean ====
abbrev S2x1024x512 : Shape := ⟨3, ![2, 1024, 512]⟩
abbrev S512x256 : Shape := ⟨2, ![512, 256]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x1024x512 .f32) (main_arg1 : FVec F S512x256 .f32) (main_arg2 : FVec F S512x256 .f32) (main_arg3 : FVec F S512x256 .f32) (main_arg4 : FVec F S256x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S8x2x256x256 : Shape := ⟨4, ![8, 2, 256, 256]⟩
abbrev S7 : Shape := ⟨1, ![7]⟩
abbrev S_ : Shape := ⟨0, ![]⟩
abbrev S128x256 : Shape := ⟨2, ![128, 256]⟩
abbrev S256x256 : Shape := ⟨2, ![256, 256]⟩
abbrev S1x128x512 : Shape := ⟨3, ![1, 128, 512]⟩
abbrev S128x512 : Shape := ⟨2, ![128, 512]⟩
abbrev S1x1x128x256 : Shape := ⟨4, ![1, 1, 128, 256]⟩
abbrev S1 : Shape := ⟨1, ![1]⟩
abbrev S1x2x256x256 : Shape := ⟨4, ![1, 2, 256, 256]⟩
abbrev S2x256x256 : Shape := ⟨3, ![2, 256, 256]⟩
abbrev S128x1 : Shape := ⟨2, ![128, 1]⟩
abbrev S128x64 : Shape := ⟨2, ![128, 64]⟩
abbrev S1x1x256x256 : Shape := ⟨4, ![1, 1, 256, 256]⟩
abbrev S128x128 : Shape := ⟨2, ![128, 128]⟩
abbrev S128 : Shape := ⟨1, ![128]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S8x2x256x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : Index := Scalar.indexCast v2
  let c0_54 : Index := 0#32
  let c0_55 : Index := 0#32
  let c0_56 : Index := 0#32
  ![v118.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : Index := Scalar.indexCast v2
  let c0_57 : Index := 0#32
  let c128 : Index := 128#32
  let c0_58 : Index := 0#32
  ![v123.toNat, 0, 128, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v135 : Index := Scalar.indexCast v2
  let c1_62 : Index := 1#32
  let c0_63 : Index := 0#32
  let c0_64 : Index := 0#32
  ![v135.toNat, 1, 0, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v140 : Index := Scalar.indexCast v2
  let c1_65 : Index := 1#32
  let c128_66 : Index := 128#32
  let c0_67 : Index := 0#32
  ![v140.toNat, 1, 128, 0]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_74 : BitVec 32 := 0#32
  let c0_i32_75 : BitVec 32 := 0#32
  let c0_i32_76 : BitVec 32 := 0#32
  ![v2.toNat, 0, 0, 0]
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v144 : BitVec 32 := Scalar.addi v2 c1_i32_68
  let c8_i32_69 : BitVec 32 := 8#32
  let v145 : BitVec 32 := Scalar.remsi v144 c8_i32_69
  let c1_i32_72 : BitVec 32 := 1#32
  let v146 : BitVec 32 := Scalar.muli v145 c1_i32_72
  let v147 : BitVec 32 := Scalar.addi c0_i32_73 v146
  v147.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v156 : BitVec 32 := Scalar.addi v2 c2_i32_80
  let c8_i32_81 : BitVec 32 := 8#32
  let v157 : BitVec 32 := Scalar.remsi v156 c8_i32_81
  let c1_i32_84 : BitVec 32 := 1#32
  let v158 : BitVec 32 := Scalar.muli v157 c1_i32_84
  let v159 : BitVec 32 := Scalar.addi c0_i32_85 v158
  v159.toNat
def k0_dev10 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_92 : BitVec 32 := 3#32
  let v168 : BitVec 32 := Scalar.addi v2 c3_i32_92
  let c8_i32_93 : BitVec 32 := 8#32
  let v169 : BitVec 32 := Scalar.remsi v168 c8_i32_93
  let c1_i32_96 : BitVec 32 := 1#32
  let v170 : BitVec 32 := Scalar.muli v169 c1_i32_96
  let v171 : BitVec 32 := Scalar.addi c0_i32_97 v170
  v171.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v180 : BitVec 32 := Scalar.addi v2 c4_i32_104
  let c8_i32_105 : BitVec 32 := 8#32
  let v181 : BitVec 32 := Scalar.remsi v180 c8_i32_105
  let c1_i32_108 : BitVec 32 := 1#32
  let v182 : BitVec 32 := Scalar.muli v181 c1_i32_108
  let v183 : BitVec 32 := Scalar.addi c0_i32_109 v182
  v183.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v192 : BitVec 32 := Scalar.addi v2 c5_i32_116
  let c8_i32_117 : BitVec 32 := 8#32
  let v193 : BitVec 32 := Scalar.remsi v192 c8_i32_117
  let c1_i32_120 : BitVec 32 := 1#32
  let v194 : BitVec 32 := Scalar.muli v193 c1_i32_120
  let v195 : BitVec 32 := Scalar.addi c0_i32_121 v194
  v195.toNat
def k0_dev13 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_128 : BitVec 32 := 6#32
  let v204 : BitVec 32 := Scalar.addi v2 c6_i32_128
  let c8_i32_129 : BitVec 32 := 8#32
  let v205 : BitVec 32 := Scalar.remsi v204 c8_i32_129
  let c1_i32_132 : BitVec 32 := 1#32
  let v206 : BitVec 32 := Scalar.muli v205 c1_i32_132
  let v207 : BitVec 32 := Scalar.addi c0_i32_133 v206
  v207.toNat
def k0_dev14 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_140 : BitVec 32 := 7#32
  let v216 : BitVec 32 := Scalar.addi v2 c7_i32_140
  let c8_i32_141 : BitVec 32 := 8#32
  let v217 : BitVec 32 := Scalar.remsi v216 c8_i32_141
  let c1_i32_144 : BitVec 32 := 1#32
  let v218 : BitVec 32 := Scalar.muli v217 c1_i32_144
  let v219 : BitVec 32 := Scalar.addi c0_i32_145 v218
  v219.toNat
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : Index := Scalar.indexCast v2
  let c0_176 : Index := 0#32
  let c0_177 : Index := 0#32
  let c0_178 : Index := 0#32
  ![v265.toNat, 0, 0, 0]
def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v314 : Index := Scalar.indexCast v2
  let c1_191 : Index := 1#32
  let c0_192 : Index := 0#32
  let c0_193 : Index := 0#32
  ![v314.toNat, 1, 0, 0]
def k0_off8 (d0 : Dev nD) (c1_i32_206 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v363 : BitVec 32 := Scalar.subi v2 c1_i32_206
  let c8_i32_207 : BitVec 32 := 8#32
  let v364 : BitVec 32 := Scalar.addi v363 c8_i32_207
  let c8_i32_208 : BitVec 32 := 8#32
  let v365 : BitVec 32 := Scalar.remsi v364 c8_i32_208
  let c0_i32_213 : BitVec 32 := 0#32
  let c0_i32_214 : BitVec 32 := 0#32
  let c0_i32_215 : BitVec 32 := 0#32
  ![v365.toNat, 0, 0, 0]
def k0_off9 (d0 : Dev nD) (c1_i32_206 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v363 : BitVec 32 := Scalar.subi v2 c1_i32_206
  let c8_i32_207 : BitVec 32 := 8#32
  let v364 : BitVec 32 := Scalar.addi v363 c8_i32_207
  let c8_i32_208 : BitVec 32 := 8#32
  let v365 : BitVec 32 := Scalar.remsi v364 c8_i32_208
  let v374 : Index := Scalar.indexCast v365
  let c0_219 : Index := 0#32
  let c0_220 : Index := 0#32
  let c0_221 : Index := 0#32
  ![v374.toNat, 0, 0, 0]
def k0_off10 (d0 : Dev nD) (c1_i32_206 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v363 : BitVec 32 := Scalar.subi v2 c1_i32_206
  let c8_i32_207 : BitVec 32 := 8#32
  let v364 : BitVec 32 := Scalar.addi v363 c8_i32_207
  let c8_i32_208 : BitVec 32 := 8#32
  let v365 : BitVec 32 := Scalar.remsi v364 c8_i32_208
  let v423 : Index := Scalar.indexCast v365
  let c1_234 : Index := 1#32
  let c0_235 : Index := 0#32
  let c0_236 : Index := 0#32
  ![v423.toNat, 1, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "rope" => some ((-((Real.log 10000) * 64⁻¹) : ℝ) : EReal)
  | _ => none
-- ==== ReferenceIdeal.lean ====
abbrev S2x1024x512 : Shape := ⟨3, ![2, 1024, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x256 : Shape := ⟨3, ![2, 1024, 256]⟩
abbrev S2x1024x4x64 : Shape := ⟨4, ![2, 1024, 4, 64]⟩
abbrev S2x1024x4x32x2 : Shape := ⟨5, ![2, 1024, 4, 32, 2]⟩
abbrev S2x1024x4x32x1 : Shape := ⟨5, ![2, 1024, 4, 32, 1]⟩
abbrev S2x1024x4x32 : Shape := ⟨4, ![2, 1024, 4, 32]⟩
abbrev S1x1024x1x64 : Shape := ⟨4, ![1, 1024, 1, 64]⟩
abbrev S2x4x1024x1024 : Shape := ⟨4, ![2, 4, 1024, 1024]⟩
abbrev S2x4x1024 : Shape := ⟨3, ![2, 4, 1024]⟩
abbrev S2x4x1024x1 : Shape := ⟨4, ![2, 4, 1024, 1]⟩
abbrev S2x4x64x1024 : Shape := ⟨4, ![2, 4, 64, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1024, .i32⟩
  | .hbm, ⟨23, _⟩ => ⟨S1024x1, .i32⟩
  | .hbm, ⟨24, _⟩ => ⟨S1x32, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32x2, .f32⟩
  | .hbm, ⟨31, _⟩ => ⟨S1024x64, .f32⟩
  | .hbm, ⟨32, _⟩ => ⟨S1024x32, .f32⟩
  | .hbm, ⟨33, _⟩ => ⟨S1024x32x2, .f32⟩
  | .hbm, ⟨34, _⟩ => ⟨S1024x64, .f32⟩
  | .hbm, ⟨35, _⟩ => ⟨S2x1024x256, .f32⟩
  | .hbm, ⟨36, _⟩ => ⟨S2x1024x4x64, .f32⟩
  | .hbm, ⟨37, _⟩ => ⟨S2x1024x4x32x2, .f32⟩
  | .hbm, ⟨38, _⟩ => ⟨S2x1024x4x32x1, .f32⟩
  | .hbm, ⟨39, _⟩ => ⟨S2x1024x4x32, .f32⟩
  | .hbm, ⟨40, _⟩ => ⟨S2x1024x4x32, .f32⟩
  | .hbm, ⟨41, _⟩ => ⟨S2x1024x4x32x1, .f32⟩
  | .hbm, ⟨42, _⟩ => ⟨S2x1024x4x32, .f32⟩
  | .hbm, ⟨43, _⟩ => ⟨S2x1024x4x32x1, .f32⟩
  | .hbm, ⟨44, _⟩ => ⟨S2x1024x4x32x1, .f32⟩
  | .hbm, ⟨45, _⟩ => ⟨S2x1024x4x32x2, .f32⟩
  | .hbm, ⟨46, _⟩ => ⟨S2x1024x4x64, .f32⟩
  | .hbm, ⟨47, _⟩ => ⟨S1x1024x1x64, .f32⟩
  | .hbm, ⟨48, _⟩ => ⟨S2x1024x4x64, .f32⟩
  | .hbm, ⟨49, _⟩ => ⟨S2x1024x4x64, .f32⟩
  | .hbm, ⟨50, _⟩ => ⟨S1x1024x1x64, .f32⟩
  | .hbm, ⟨51, _⟩ => ⟨S2x1024x4x64, .f32⟩
  | .hbm, ⟨52, _⟩ => ⟨S2x1024x4x64, .f32⟩
  | .hbm, ⟨53, _⟩ => ⟨S2x1024x4x64, .f32⟩
  | .hbm, ⟨54, _⟩ => ⟨S2x1024x256, .f32⟩
  | .hbm, ⟨55, _⟩ => ⟨S2x1024x4x64, .f32⟩
  | .hbm, ⟨56, _⟩ => ⟨S2x1024x4x32x2, .f32⟩
  | .hbm, ⟨57, _⟩ => ⟨S2x1024x4x32x1, .f32⟩
  | .hbm, ⟨58, _⟩ => ⟨S2x1024x4x32, .f32⟩
  | .hbm, ⟨59, _⟩ => ⟨S2x1024x4x32, .f32⟩
  | .hbm, ⟨60, _⟩ => ⟨S2x1024x4x32x1, .f32⟩
  | .hbm, ⟨61, _⟩ => ⟨S2x1024x4x32, .f32⟩
  | .hbm, ⟨62, _⟩ => ⟨S2x1024x4x32x1, .f32⟩
  | .hbm, ⟨63, _⟩ => ⟨S2x1024x4x32x1, .f32⟩
  | .hbm, ⟨64, _⟩ => ⟨S2x1024x4x32x2, .f32⟩
  | .hbm, ⟨65, _⟩ => ⟨S2x1024x4x64, .f32⟩
  | .hbm, ⟨66, _⟩ => ⟨S1x1024x1x64, .f32⟩
  | .hbm, ⟨67, _⟩ => ⟨S2x1024x4x64, .f32⟩
  | .hbm, ⟨68, _⟩ => ⟨S2x1024x4x64, .f32⟩
  | .hbm, ⟨69, _⟩ => ⟨S1x1024x1x64, .f32⟩
  | .hbm, ⟨70, _⟩ => ⟨S2x1024x4x64, .f32⟩
  | .hbm, ⟨71, _⟩ => ⟨S2x1024x4x64, .f32⟩
  | .hbm, ⟨72, _⟩ => ⟨S2x1024x4x64, .f32⟩
  | .hbm, ⟨73, _⟩ => ⟨S2x1024x256, .f32⟩
  | .hbm, ⟨74, _⟩ => ⟨S2x1024x4x64, .f32⟩
  | .hbm, ⟨75, _⟩ => ⟨S2x4x1024x1024, .f32⟩
  | .hbm, ⟨76, _⟩ => ⟨S_, .f32⟩
  | .hbm, ⟨77, _⟩ => ⟨S2x4x1024x1024, .f32⟩
  | .hbm, ⟨78, _⟩ => ⟨S2x4x1024x1024, .f32⟩
  | .hbm, ⟨79, _⟩ => ⟨S_, .f32⟩
  | .hbm, ⟨80, _⟩ => ⟨S2x4x1024, .f32⟩
  | .hbm, ⟨81, _⟩ => ⟨S2x4x1024x1, .f32⟩
  | .hbm, ⟨82, _⟩ => ⟨S2x4x1024x1024, .f32⟩
  | .hbm, ⟨83, _⟩ => ⟨S2x4x1024x1024, .f32⟩
  | .hbm, ⟨84, _⟩ => ⟨S2x4x1024x1024, .f32⟩
  | .hbm, ⟨85, _⟩ => ⟨S_, .f32⟩
  | .hbm, ⟨86, _⟩ => ⟨S2x4x1024, .f32⟩
  | .hbm, ⟨87, _⟩ => ⟨S2x4x1024x1, .f32⟩
  | .hbm, ⟨88, _⟩ => ⟨S2x4x1024x1024, .f32⟩
  | .hbm, ⟨89, _⟩ => ⟨S2x4x1024x1024, .f32⟩
  | .hbm, ⟨90, _⟩ => ⟨S2x4x64x1024, .f32⟩
  | .hbm, ⟨91, _⟩ => ⟨S2x1024x4x64, .f32⟩
  | .hbm, ⟨92, _⟩ => ⟨S2x1024x256, .f32⟩
  | .hbm, ⟨93, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Prog.lean ====
/- The kernel's body as a short program: seven signals, a wait, the block's four stores, seven copies, then a
   loop over the origins that folds each gathered block into eight accumulators, the output, and the waits for
   the copies sent.  `body_eq` says the printed body is this program. -/
module

public import proofs.«01_k».proof.Proof.Gen.KernelIdeal.Skeleton
public import Idealize.ShloMosaic.Lib.Pipeline.Regions

@[expose] public section

noncomputable section

namespace Cert.KernelIdeal.Alg

open Idealize.ShloMosaic Idealize.SL.Sem Cert.KernelIdeal.Gen

variable {F : FTy → Type} [FloatOps F] [Named F]

/-! ## The values -/

/-- One head's running sums: of the weights, and of the weighted rows. -/
structure Acc (F : FTy → Type) where
  l : FVec F S128x1 .f32
  a : FVec F S128x64 .f32

theorem headSl : ∀ h : Fin 4, S128x256.Slices ![0, 64 * h.val] S128x64 := by decide

/-- A head's columns. -/
def head (h : Fin 4) (q : FVec F S128x256 .bf16) : FVec F S128x64 .bf16 :=
  extractStridedSlice S128x64 ![0, 64 * h.val] q (headSl h)

/-- The first 128 rows of a gathered block: the keys. -/
def keys (kv : Vec F S1x1x256x256 .bf16) : FVec F S128x256 .bf16 :=
  extractStridedSlice S128x256 ![0, 0] (shapeCast S256x256 kv shapeCasts_S1x1x256x256_S256x256) slices_S256x256_o0_0_S128x256

/-- The last 128 rows of a gathered block: the values. -/
def vals (kv : Vec F S1x1x256x256 .bf16) : FVec F S128x256 .bf16 :=
  extractStridedSlice S128x256 ![128, 0] (shapeCast S256x256 kv shapeCasts_S1x1x256x256_S256x256) slices_S256x256_o128_0_S128x256

/-- A head's weights on one block. -/
def wts (h : Fin 4) (q : FVec F S128x256 .bf16) (kv : Vec F S1x1x256x256 .bf16) : FVec F S128x128 .f32 :=
  exp (matmul dot_S128x64_S128x64_S128x128_1_1_0_0_n_n none (head h q) (head h (keys kv)) (constant S128x128 .f32 0x00000000#32))

/-- One block folded into a head's sums. -/
def accStep (h : Fin 4) (q : FVec F S128x256 .bf16) (kv : Vec F S1x1x256x256 .bf16) (s : Acc F) : Acc F where
  l := addf s.l (shapeCast S128x1 (multiReduction .add [1] S128 (wts h q kv) 0x00000000#32 reduces_S128x128_S128 (.inl rfl) rfl) shapeCasts_S128_S128x1)
  a := addf s.a (matmul dot_S128x128_S128x64_S128x64_1_0_0_1_n_n none (truncf .bf16 (wts h q kv) bitsLt_bf16_f32) (head h (vals kv)) (constant S128x64 .f32 0x00000000#32))

/-- The eight accumulators: per batch row, per head. -/
abbrev St (F : FTy → Type) := Fin 2 → Fin 4 → Acc F

def acc0 : St F := fun _ _ => ⟨broadcast S128x1 (Scalar.ofBits .f32 0x00000000#32), broadcast S128x64 (Scalar.ofBits .f32 0x00000000#32)⟩

/-- One gathered pair of blocks folded in. -/
def consume (q0 q1 : FVec F S128x256 .bf16) (kv0 kv1 : Vec F S1x1x256x256 .bf16) (s : St F) : St F :=
  fun b h => accStep h (Fin.cases q0 (fun _ => q1) b) (Fin.cases kv0 (fun _ => kv1) b) (s b h)

/-- The position word of device `c`. -/
def posW (c : Dev nD) : BitVec 32 := Scalar.remsi (Scalar.divsi (Dev.word c) 1#32) 8#32
def cosV (c : Dev nD) : FVec F S128x256 .f32 := k0_pay3 (posW c) (k0_pay1 (F := F)) (Named.named κ "rope" 0xBE135D8E#32)
def sinV (c : Dev nD) : FVec F S128x256 .f32 := k0_pay4 (posW c) (k0_pay1 (F := F)) (Named.named κ "rope" 0xBE135D8E#32)

/-- The keys' and values' blocks a device stores. -/
def kBlk (c : Dev nD) (wk : Vec F S512x256 .f32) (x : Vec F S1x128x512 .f32) : FVec F S1x1x128x256 .bf16 :=
  k0_pay10 (cosV c) (sinV c) (k0_pay5 (F := F)) (k0_pay6 wk) (k0_pay8 x)
def vBlk (wv : Vec F S512x256 .f32) (x : Vec F S1x128x512 .f32) : FVec F S1x1x128x256 .bf16 :=
  k0_pay11 (k0_pay7 wv) (k0_pay8 x)
/-- The queries. -/
def qBlk (c : Dev nD) (wq : Vec F S512x256 .f32) (x : Vec F S1x128x512 .f32) : FVec F S128x256 .bf16 :=
  k0_pay16 (cosV c) (sinV c) (k0_pay5 (F := F)) (k0_pay8 x) (k0_pay14 wq)
/-- A batch row's output. -/
def oBlk (s : Fin 4 → Acc F) (wo : Vec F S256x512 .f32) : FVec F S1x128x512 .f32 :=
  k0_pay291 (s 0).l (s 0).a (s 1).l (s 1).a (s 2).l (s 2).a (s 3).l (s 3).a (k0_pay289 wo)

/-! ## The neighbours, the slots and the semaphores -/

/-- Whom signal `j` goes to. -/
def devS (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
/-- Whom copy `j` goes to. -/
def devC (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]

theorem inb7 : ∀ (j : Fin 7) a, (![j.val] : Fin 1 → Nat) a + S1.size a ≤ S7.size a := by decide

/-- Semaphore `j` of an array of seven. -/
def semAt (s : DmaSems sig S7) (j : Fin 7) : DmaSem sig :=
  ((s.slice (Rect.unit (s := S7) ![j.val] S1.size (inb7 j))).squeeze S_ squeezes_S1_S_).sem

abbrev scr : Memref sig .tc .vmem S8x2x256x256 .bf16 := Memref.whole cc0_scratch0
theorem hscr : scr.IsWhole := Memref.isWhole_whole _

/-- The slot of the device's own block, and the slot copy `j` fills. -/
def slotOwn (c : Dev nD) : Memref sig .tc .vmem S2x256x256 .bf16 :=
  (scr.slice (Rect.unit (s := S8x2x256x256) (k0_off5 c) S1x2x256x256.size (k0_off5_inb c)) (fun _ => rfl)).squeeze S2x256x256 squeezes_S1x2x256x256_S2x256x256
def slotIn (c : Dev nD) (j : Fin 7) : Memref sig .tc .vmem S2x256x256 .bf16 :=
  (scr.slice (Rect.unit (s := S8x2x256x256) (k0_off8 c (BitVec.ofNat 32 (1 + j.val))) S1x2x256x256.size (k0_off8_inb c j)) (fun _ => rfl)).squeeze S2x256x256 squeezes_S1x2x256x256_S2x256x256

theorem slotOwn_words (c : Dev nD) : (slotOwn c).view.WordExact := (hscr.wordExact_slice rfl _ (k0_off5_wordsbf16 c)).reshape _ _
theorem slotIn_words (c : Dev nD) (j : Fin 7) : (slotIn c j).view.WordExact := (hscr.wordExact_slice rfl _ (k0_off8_wordsbf16 c j)).reshape _ _

/-- The rectangles of the loads. -/
abbrev rIn0 (c : Dev nD) (j : Fin 7) : Rect S8x2x256x256 := Rect.unit (k0_off9 c (BitVec.ofNat 32 (1 + j.val))) S1x1x256x256.size (k0_off9_inb c j)
abbrev rIn1 (c : Dev nD) (j : Fin 7) : Rect S8x2x256x256 := Rect.unit (k0_off10 c (BitVec.ofNat 32 (1 + j.val))) S1x1x256x256.size (k0_off10_inb c j)
abbrev rOwn0 (c : Dev nD) : Rect S8x2x256x256 := Rect.unit (k0_off6 c) S1x1x256x256.size (k0_off6_inb c)
abbrev rOwn1 (c : Dev nD) : Rect S8x2x256x256 := Rect.unit (k0_off7 c) S1x1x256x256.size (k0_off7_inb c)
/-- The rectangles of the four stores. -/
abbrev rSt1 (c : Dev nD) : Rect S8x2x256x256 := Rect.unit (k0_off1 c) S1x1x128x256.size (k0_off1_inb c)
abbrev rSt2 (c : Dev nD) : Rect S8x2x256x256 := Rect.unit (k0_off2 c) S1x1x128x256.size (k0_off2_inb c)
abbrev rSt3 (c : Dev nD) : Rect S8x2x256x256 := Rect.unit (k0_off3 c) S1x1x128x256.size (k0_off3_inb c)
abbrev rSt4 (c : Dev nD) : Rect S8x2x256x256 := Rect.unit (k0_off4 c) S1x1x128x256.size (k0_off4_inb c)
abbrev rW : Rect S512x256 := Rect.unit (s := S512x256) ![0, 0] S512x256.size inb_S512x256_S512x256_0_0
abbrev rWo : Rect S256x512 := Rect.unit (s := S256x512) ![0, 0] S256x512.size inb_S256x512_S256x512_0_0
abbrev rX0 : Rect S2x128x512 := Rect.unit (s := S2x128x512) ![0, 0, 0] S1x128x512.size inb_S2x128x512_S1x128x512_0_0_0
abbrev rX1 : Rect S2x128x512 := Rect.unit (s := S2x128x512) ![1, 0, 0] S1x128x512.size inb_S2x128x512_S1x128x512_1_0_0

/-! ## The program -/

abbrev P (F : FTy → Type) := Prog (TpuEff nD τ sig (Elt F) Λ₀ .tc) PUnit

abbrev bar : Sem sig := (SemArray.scalar (sig.barrier 0 rfl) : Sems sig S_).sem

def progSig (c : Dev nD) (k : P F) : List (Fin 7) → P F
  | [] => k
  | j :: js => .op (.semSignal (devS c j, .tc) bar (1#32 : BitVec 32).toInt) fun _ => progSig c k js

def progSend (c : Dev nD) (k : P F) : List (Fin 7) → P F
  | [] => k
  | j :: js => .op (.enqueueDma (slotOwn c) (.remote (Dev.tc (devC c j)) (slotOwn c) (.dma (semAt cc0_scratch1 j))) (.dma (semAt cc0_scratch2 j))
      (slotOwn_words c) (slotOwn_words c) ⟨⟨rfl, Or.inl rfl⟩, trivial⟩) fun _ => progSend c k js

def progRecv (c : Dev nD) (q0 q1 : FVec F S128x256 .bf16) (k : St F → P F) : List (Fin 7) → St F → P F
  | [], s => k s
  | j :: js, s =>
    .op (.waitDma2 (semAt cc0_scratch2 j) (slotOwn c) (slotIn c j) (slotOwn_words c) (slotIn_words c j)) fun _ =>
    .op (.load scr (rIn0 c j).toLoadRect (View.loadsAt_vmem h_S1x1x256x256)) fun kv0 =>
    .op (.load scr (rIn1 c j).toLoadRect (View.loadsAt_vmem h_S1x1x256x256)) fun kv1 =>
    progRecv c q0 q1 k js (consume q0 q1 kv0 kv1 s)

def progDone (c : Dev nD) : List (Fin 7) → P F
  | [] => .ret ⟨⟩
  | j :: js => .op (.waitDma2 (semAt cc0_scratch1 j) (slotOwn c) (slotOwn c) (slotOwn_words c) (slotOwn_words c)) fun _ => progDone c js

abbrev all7 : List (Fin 7) := [0, 1, 2, 3, 4, 5, 6]

def progStore (c : Dev nD) (k : P F) (w1 w2 w3 w4 : FVec F S1x1x128x256 .bf16) : P F :=
  .op (.load scr (rSt1 c).toLoadRect (View.loadsAt_vmem h_S1x1x128x256)) fun _ =>
  .op (.store scr (rSt1 c) w1 Finset.univ (View.stores_vmem h_S1x1x128x256 (hscr.storeExact_slice rfl _ (k0_off1_packedbf16 c)) (fun _ => rfl)) (.inl rfl)) fun _ =>
  .op (.load scr (rSt2 c).toLoadRect (View.loadsAt_vmem h_S1x1x128x256)) fun _ =>
  .op (.store scr (rSt2 c) w2 Finset.univ (View.stores_vmem h_S1x1x128x256 (hscr.storeExact_slice rfl _ (k0_off2_packedbf16 c)) (fun _ => rfl)) (.inl rfl)) fun _ =>
  .op (.load scr (rSt3 c).toLoadRect (View.loadsAt_vmem h_S1x1x128x256)) fun _ =>
  .op (.store scr (rSt3 c) w3 Finset.univ (View.stores_vmem h_S1x1x128x256 (hscr.storeExact_slice rfl _ (k0_off3_packedbf16 c)) (fun _ => rfl)) (.inl rfl)) fun _ =>
  .op (.load scr (rSt4 c).toLoadRect (View.loadsAt_vmem h_S1x1x128x256)) fun _ =>
  .op (.store scr (rSt4 c) w4 Finset.univ (View.stores_vmem h_S1x1x128x256 (hscr.storeExact_slice rfl _ (k0_off4_packedbf16 c)) (fun _ => rfl)) (.inl rfl)) fun _ => k

variable (arg0 : Memref sig .tc .vmem S2x128x512 .f32) (arg1 arg2 arg3 : Memref sig .tc .vmem S512x256 .f32)
  (arg4 : Memref sig .tc .vmem S256x512 .f32) (arg5 : Memref sig .tc .vmem S2x128x512 .f32)

def progOut (s : St F) (k : P F) : P F :=
  .op (.load arg4 rWo.toLoadRect (View.loadsAt_vmem h_S256x512)) fun wo =>
  .op (.load arg5 rX0.toLoadRect (View.loadsAt_vmem h_S1x128x512)) fun _ =>
  .op (.store arg5 rX0 (oBlk (s 0) wo) Finset.univ (View.stores_vmem_bits_univ h_S1x128x512 rfl) (.inl rfl)) fun _ =>
  .op (.load arg5 rX1.toLoadRect (View.loadsAt_vmem h_S1x128x512)) fun _ =>
  .op (.store arg5 rX1 (oBlk (s 1) wo) Finset.univ (View.stores_vmem_bits_univ h_S1x128x512 rfl) (.inl rfl)) fun _ => k

def progMain (c : Dev nD) (x0 x1 : Vec F S1x128x512 .f32) : P F :=
  .op (.load arg1 rW.toLoadRect (View.loadsAt_vmem h_S512x256)) fun wq =>
  .op (.load scr (rOwn0 c).toLoadRect (View.loadsAt_vmem h_S1x1x256x256)) fun kv0 =>
  .op (.load scr (rOwn1 c).toLoadRect (View.loadsAt_vmem h_S1x1x256x256)) fun kv1 =>
  progRecv c (qBlk c wq x0) (qBlk c wq x1) (fun s => progOut arg4 arg5 s (progDone c all7)) all7
    (consume (qBlk c wq x0) (qBlk c wq x1) kv0 kv1 acc0)

def body : P F :=
  .op .deviceId fun c =>
  progSig c
    (.op (.semWait bar (7#32 : BitVec 32).toInt) fun _ =>
    .op (.load arg2 rW.toLoadRect (View.loadsAt_vmem h_S512x256)) fun wk =>
    .op (.load arg3 rW.toLoadRect (View.loadsAt_vmem h_S512x256)) fun wv =>
    .op (.load arg0 rX0.toLoadRect (View.loadsAt_vmem h_S1x128x512)) fun x0 =>
    .op (.load arg0 rX1.toLoadRect (View.loadsAt_vmem h_S1x128x512)) fun x1 =>
    progStore c (progSend c (progMain arg1 arg4 arg5 c x0 x1) all7) (kBlk c wk x0) (vBlk wv x0) (kBlk c wk x1) (vBlk wv x1))
    all7

theorem body_eq (harg0 : arg0.IsWhole) (harg1 : arg1.IsWhole) (harg2 : arg2.IsWhole) (harg3 : arg3.IsWhole) (harg4 : arg4.IsWhole) (harg5 : arg5.IsWhole) :
    cc0_body (F := F) arg0 harg0 arg1 harg1 arg2 harg2 arg3 harg3 arg4 harg4 arg5 harg5 scr hscr cc0_scratch1 cc0_scratch2
      = body arg0 arg1 arg2 arg3 arg4 arg5 := by
  chain_rfl

end Cert.KernelIdeal.Alg

end
-- ==== Proof.Proto.lean ====
/- The protocol: who pays which semaphore, what a payment hands over, what each device owes at launch, and the
   contents every slot ends up holding. -/
module

public import proofs.«01_k».proof.Proof.Prog
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.KernelIdeal.Proto

open Cert.KernelIdeal Cert.KernelIdeal.Gen Cert.KernelIdeal.Alg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- `j + 1` devices on. -/
def fwd (j : Fin 7) (c : Dev nD) : Dev nD := ⟨(c.val + j.val + 1) % 8, Nat.mod_lt _ (by decide)⟩
set_option backward.proofsInPublic true in
/-- `j + 1` devices back. -/
def bwd (j : Fin 7) (c : Dev nD) : Dev nD := ⟨(c.val + 7 - j.val) % 8, Nat.mod_lt _ (by decide)⟩

theorem bwd_fwd : ∀ (j : Fin 7) (c : Dev nD), bwd j (fwd j c) = c := by decide
theorem fwd_bwd : ∀ (j : Fin 7) (c : Dev nD), fwd j (bwd j c) = c := by decide
theorem fwd_rev : ∀ (j : Fin 7) (c : Dev nD), fwd (Fin.rev j) (fwd j c) = c := by decide
theorem fwd_inj : ∀ c : Dev nD, Function.Injective (fun j => fwd j c) := by decide
theorem bwd_inj : ∀ c : Dev nD, Function.Injective (fun j => bwd j c) := by decide
theorem fwd_ne : ∀ (c : Dev nD) (j : Fin 7), fwd j c ≠ c := by decide
theorem bwd_ne : ∀ (c : Dev nD) (j : Fin 7), bwd j c ≠ c := by decide

theorem devS_eq (c : Dev nD) (j : Fin 7) : devS c j = fwd j c := by
  fin_cases j
  · exact Fin.ext (k0_dev1_eq c)
  · exact Fin.ext (k0_dev2_eq c)
  · exact Fin.ext (k0_dev3_eq c)
  · exact Fin.ext (k0_dev4_eq c)
  · exact Fin.ext (k0_dev5_eq c)
  · exact Fin.ext (k0_dev6_eq c)
  · exact Fin.ext (k0_dev7_eq c)

theorem devC_eq (c : Dev nD) (j : Fin 7) : devC c j = fwd j c := by
  fin_cases j
  · exact Fin.ext (k0_dev8_eq c)
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)

/-! ## Separating conjunctions along a list -/

def sepL {M : Type} [URA M] : List (Fin 7) → (Fin 7 → sProp M) → sProp M
  | [], _ => iprop(emp)
  | j :: js, Φ => iprop(Φ j ∗ sepL js Φ)

theorem bigSep_ins {M I : Type} [URA M] [DecidableEq I] {i : I} {s : Finset I} (h : i ∉ s) {Φ : I → sProp M} :
    bigSep (insert i s) Φ = iprop(Φ i ∗ bigSep s Φ) :=
  bigSep_insert h

theorem bigSep_toFinset {M : Type} [URA M] (Φ : Fin 7 → sProp M) :
    ∀ l : List (Fin 7), l.Nodup → bigSep l.toFinset Φ = sepL l Φ
  | [], _ => by simp only [List.toFinset_nil, bigSep_empty]; rfl
  | j :: js, h => by
    rw [List.toFinset_cons, bigSep_ins (by rw [List.mem_toFinset]; exact (List.nodup_cons.mp h).1),
      bigSep_toFinset Φ js (List.nodup_cons.mp h).2]
    rfl

theorem bigSep_all7 {M : Type} [URA M] (Φ : Fin 7 → sProp M) : bigSep Finset.univ Φ = sepL all7 Φ := by
  rw [← bigSep_toFinset Φ all7 (by decide)]; rfl

/-- A device's eight are itself and any seven others. -/
theorem bigSep_around {M : Type} [URA M] (Φ : Dev nD → sProp M) (c : Dev nD) (f : Fin 7 → Dev nD) (hf : Function.Injective f)
    (hne : ∀ j, f j ≠ c) : bigSep Finset.univ Φ = iprop(Φ c ∗ sepL all7 fun j => Φ (f j)) := by
  have hc : c ∉ (Finset.univ.map ⟨f, hf⟩ : Finset (Dev nD)) := by
    rw [Finset.mem_map]; rintro ⟨j, -, h⟩; exact hne j h
  have h : (Finset.univ : Finset (Dev nD)) = insert c (Finset.univ.map ⟨f, hf⟩) := by
    symm; apply Finset.eq_univ_of_card
    rw [Finset.card_insert_of_notMem hc, Finset.card_map]; rfl
  rw [h, bigSep_ins hc, bigSep_map, bigSep_all7]
  rfl

/-! ## The cells -/

abbrev bufP : Ref sig .tc := cc0_scratch0

abbrev barCell (c : Dev nD) : GSem nD τ sig := ((c : Thread nD τ), .reg bar)
abbrev sendCell (c : Dev nD) (j : Fin 7) : GSem nD τ sig := ((c : Thread nD τ), .dma (semAt cc0_scratch1 j))
abbrev recvCell (c : Dev nD) (j : Fin 7) : GSem nD τ sig := ((c : Thread nD τ), .dma (semAt cc0_scratch2 j))

theorem sendNo : ∀ j : Fin 7, (semAt cc0_scratch1 j).val = 6 + j.val := by decide
theorem recvNo : ∀ j : Fin 7, (semAt cc0_scratch2 j).val = 13 + j.val := by decide

/-- The kernel's own semaphores: the seven of the copies sent, the seven of the copies received; -/
abbrev osem : Fin 7 ⊕ Fin 7 → SemLoc sig
  | .inl j => .dma (semAt cc0_scratch1 j)
  | .inr j => .dma (semAt cc0_scratch2 j)
/-- and the barrier's. -/
abbrev csem : Unit ⊕ (Fin 7 ⊕ Fin 7) → SemLoc sig
  | .inl _ => .reg bar
  | .inr k => osem k
abbrev CK : Type := Unit ⊕ (Fin 7 ⊕ Fin 7)
abbrev kcell (ck : Dev nD × CK) : GSem nD τ sig := ((ck.1 : Thread nD τ), csem ck.2)

theorem osem_inj : Function.Injective osem := by decide
theorem csem_inj : Function.Injective csem := by decide
theorem recv_inj : Function.Injective (semAt cc0_scratch2) := by decide

/-- What one copy is worth. -/
def N : ℕ := (slotOwn 0).view.dmaCredit
theorem N_own (c : Dev nD) : (slotOwn c).view.dmaCredit = N := rfl
theorem N_in (c : Dev nD) (j : Fin 7) : (slotIn c j).view.dmaCredit = N := rfl
theorem N_pos : 0 < N := View.dmaCredit_pos _ (by decide)

/-! ## Contents -/

/-- The operands as device `c` finds them staged. -/
def xin (c : Dev nD) : (cc0_stg0_0 : Ref sig .tc).ty.Contents (Elt F) := iblk m c 0 t0_0
def wqin (c : Dev nD) : (cc0_stg1_0 : Ref sig .tc).ty.Contents (Elt F) := iblk m c 1 t0_0
def wkin (c : Dev nD) : (cc0_stg2_0 : Ref sig .tc).ty.Contents (Elt F) := iblk m c 2 t0_0
def wvin (c : Dev nD) : (cc0_stg3_0 : Ref sig .tc).ty.Contents (Elt F) := iblk m c 3 t0_0
def woin (c : Dev nD) : (cc0_stg4_0 : Ref sig .tc).ty.Contents (Elt F) := iblk m c 4 t0_0

/-- Batch row `b` of the block. -/
def xrow (c : Dev nD) (b : Fin 2) : Vec F S1x128x512 .f32 :=
  fun i => xin m c (ix3 b (⟨(i 1).val, (i 1).isLt⟩ : Fin 128) (⟨(i 2).val, (i 2).isLt⟩ : Fin 512))

/-- What element `(b, r, n)` of device `o`'s slot holds: a key for the first 128 rows, a value after. -/
def gathAt (o : Dev nD) (b : Fin 2) (r : Fin 256) (n : Fin 256) : Elt F .bf16 :=
  if h : r.val < 128 then
    kBlk o (wkin m o) (xrow m o b) (ix4 (0 : Fin 1) (0 : Fin 1) (⟨r.val, h⟩ : Fin 128) n)
  else
    vBlk (wvin m o) (xrow m o b) (ix4 (0 : Fin 1) (0 : Fin 1) (⟨r.val - 128, by have := r.isLt; omega⟩ : Fin 128) n)

def gath : (cc0_scratch0 : Ref sig .tc).ty.Contents (Elt F) :=
  fun i => gathAt m (⟨(i 0).val, (i 0).isLt⟩ : Fin 8) (⟨(i 1).val, (i 1).isLt⟩ : Fin 2) (⟨(i 2).val, (i 2).isLt⟩ : Fin 256) (⟨(i 3).val, (i 3).isLt⟩ : Fin 256)

/-- A gathered block as a load reads it. -/
def kvAt (o : Dev nD) (b : Fin 2) : Vec F S1x1x256x256 .bf16 :=
  fun i => gathAt m o b (⟨(i 2).val, (i 2).isLt⟩ : Fin 256) (⟨(i 3).val, (i 3).isLt⟩ : Fin 256)

/-! ## Slots -/

/-- The elements of slot `o`. -/
def slotSet (o : Dev nD) : Finset ((cc0_scratch0 : Ref sig .tc).ty.shape.Idx) := Finset.univ.filter fun i => (i 0).val = o.val

theorem mem_slotSet {o : Dev nD} {i : (cc0_scratch0 : Ref sig .tc).ty.shape.Idx} : i ∈ slotSet o ↔ (i 0).val = o.val := by
  unfold slotSet; rw [Finset.mem_filter]; exact ⟨fun h => h.2, fun h => ⟨Finset.mem_univ _, h⟩⟩

theorem slot_disjoint (o o' : Dev nD) (h : o ≠ o') : Disjoint (slotSet o) (slotSet o') := by
  rw [Finset.disjoint_left]; intro i hi hi'
  exact h (Fin.ext ((mem_slotSet.mp hi).symm.trans (mem_slotSet.mp hi')))

theorem slot_cover : Finset.univ.biUnion slotSet = Finset.univ := by
  ext i; simp only [Finset.mem_biUnion, Finset.mem_univ, true_and, iff_true]
  exact ⟨(⟨(i 0).val, (i 0).isLt⟩ : Fin 8), mem_slotSet.mpr rfl⟩

theorem off5_val (c : Dev nD) : k0_off5 c = ![c.val, 0, 0, 0] := k0_off5_eq c

theorem slotOwn_set (c : Dev nD) : (slotOwn c).view.set = slotSet c := by
  refine (View.set_reshape _ _).trans ((View.set_slice_whole cc0_scratch0 _).trans ?_)
  ext i
  rw [Rect.mem_set_unit, mem_slotSet, off5_val]
  constructor
  · intro h; have h0 := h 0
    have h1 : c.val ≤ (i 0).val ∧ (i 0).val < c.val + 1 := h0
    omega
  · intro h a
    have h0 := (i 0).isLt; have h1 := (i 1).isLt; have h2 := (i 2).isLt; have h3 := (i 3).isLt
    change _ < 8 at h0; change _ < 2 at h1; change _ < 256 at h2; change _ < 256 at h3
    match a with
    | 0 => exact (show c.val ≤ (i 0).val ∧ (i 0).val < c.val + 1 from ⟨by omega, by omega⟩)
    | 1 => exact (show 0 ≤ (i 1).val ∧ (i 1).val < 0 + 2 from ⟨by omega, by omega⟩)
    | 2 => exact (show 0 ≤ (i 2).val ∧ (i 2).val < 0 + 256 from ⟨by omega, by omega⟩)
    | 3 => exact (show 0 ≤ (i 3).val ∧ (i 3).val < 0 + 256 from ⟨by omega, by omega⟩)

/-- Slot `o` of device `d`'s buffer, held at share `q` and contents `f`. -/
def slotPts (d o : Dev nD) (q : PosShare TreeShare) (f : (cc0_scratch0 : Ref sig .tc).ty.Contents (Elt F)) : sProp 𝕄 :=
  ((d : Thread nD τ).loc cc0_scratch0) ↦[slotSet o]{q} f

instance slotPts_storable (d o : Dev nD) (q) (f) : BI.Storable (upEmb : UEmb _ 𝕄) (slotPts (F := F) d o q f) := by unfold slotPts; infer_instance

theorem slotPts_own (d o : Dev nD) (q : PosShare TreeShare) (f : (cc0_scratch0 : Ref sig .tc).ty.Contents (Elt F)) :
    (((slotOwn o).view.loc (d : Thread nD τ)) ↦[(slotOwn o).view.set]{q} f : sProp 𝕄) = slotPts d o q f := by
  rw [slotOwn_set]; rfl

/-- The shares of the own slot: seven lent to the copies, one kept. -/
def shr (j : Fin 7) : PosShare TreeShare := ShareLeaves.leaf 3 fullShare j.castSucc
def shrK : PosShare TreeShare := ShareLeaves.leaf 3 fullShare 7

theorem slotPts_shares (d o : Dev nD) (f : (cc0_scratch0 : Ref sig .tc).ty.Contents (Elt F)) :
    (slotPts d o fullShare f : sProp 𝕄) = iprop(slotPts d o shrK f ∗ sepL all7 fun j => slotPts d o (shr j) f) := by
  unfold slotPts
  refine (ShareLeaves.pointsTo_leaves (ℓ := (d : Thread nD τ).loc cc0_scratch0) (slotSet o) f 3 fullShare).trans ?_
  have h : (Finset.univ : Finset (Fin (2 ^ 3))) = insert 7 (Finset.univ.map ⟨Fin.castSucc, Fin.castSucc_injective 7⟩) := by decide
  rw [h, bigSep_ins (by decide), bigSep_map, bigSep_all7]
  rfl

/-- The whole buffer is its own slot and the seven others. -/
theorem slots_split (d : Dev nD) (f : (cc0_scratch0 : Ref sig .tc).ty.Contents (Elt F)) (g : Fin 7 → Dev nD) (hg : Function.Injective g)
    (hne : ∀ j, g j ≠ d) :
    ((((d : Thread nD τ).loc cc0_scratch0) ↦{fullShare} f : sProp 𝕄)) = iprop(slotPts d d fullShare f ∗ sepL all7 fun j => slotPts d (g j) fullShare f) := by
  rw [← bigSep_around (fun o => slotPts d o fullShare f) d g hg hne]
  unfold slotPts
  refine Eq.trans ?_ (pointsTo_biUnion (ℓ := (d : Thread nD τ).loc cc0_scratch0) Finset.univ slotSet (fun o _ o' _ h => slot_disjoint o o' h))
  rw [slot_cover]

/-! ## The schedule -/

/-- What duty `d` of `c`'s barrier hands `c`: slot `c` of the buffer of the device that pays it, whatever it holds. -/
def barPay (c : Dev nD) (d : Fin 7) : sProp 𝕄 := iprop(∃ f, slotPts (fwd d c) c fullShare f)
/-- What a copy received hands over: the slot it filled. -/
def recvPay (c : Dev nD) (j : Fin 7) : sProp 𝕄 := slotPts c (bwd j c) fullShare (gath m)
/-- What a copy sent gives back: its share of the own slot. -/
def sendPay (c : Dev nD) (j : Fin 7) : sProp 𝕄 := slotPts c c (shr j) (gath m)

abbrev IsBar (g : GSem nD τ sig) : Prop := g.1.2 = .tc ∧ g.2 = .reg bar
abbrev IsXfer (g : GSem nD τ sig) : Prop := g.1.2 = .tc ∧ ∃ k, g.2 = osem k

def xferPay (c : Dev nD) (s : ℕ) : sProp 𝕄 :=
  if 13 ≤ s then recvPay m c ⟨(s - 13) % 7, Nat.mod_lt _ (by decide)⟩ else sendPay m c ⟨(s - 6) % 7, Nat.mod_lt _ (by decide)⟩

def ringRd : Rounds.Schedule (GSem nD τ sig) (Fin 7) 𝕄 where
  duties g r := if r = 0 ∧ IsBar g then Finset.univ else if r = 0 ∧ IsXfer g then {0} else ∅
  unitless _ := False
  amount g _ _ := if g.2 = .reg bar then 1 else N
  payload g _ d := match g.2 with
    | .reg _ => barPay g.1.1 d
    | .dma s => xferPay m g.1.1 s.val
  amount_pos g _ _ _ := by
    by_cases h : g.2 = .reg bar
    · rw [if_pos h]; exact Nat.one_pos
    · rw [if_neg h]; exact N_pos

instance ringRd_payload_storable (g : GSem nD τ sig) (r : ℕ) (d : Fin 7) :
    BI.Storable (upEmb : UEmb _ 𝕄) ((ringRd (F := F) m).payload g r d) := by
  obtain ⟨t, s⟩ := g
  cases s with
  | reg s => show BI.Storable upEmb (barPay t.1 d); unfold barPay; infer_instance
  | dma s =>
    show BI.Storable upEmb (xferPay m t.1 s.val)
    unfold xferPay recvPay sendPay
    split <;> infer_instance

section Sched
variable (c : Dev nD) (j : Fin 7)

theorem dma_ne_bar (s : DmaSem sig) : (SemLoc.dma s : SemLoc sig) ≠ .reg bar := fun h => by cases h
theorem osem_ne_bar (k : Fin 7 ⊕ Fin 7) : osem k ≠ .reg bar := by cases k <;> exact dma_ne_bar _

theorem duties_bar : (ringRd (F := F) m).duties (barCell c) 0 = Finset.univ := by dsimp only [ringRd]; exact if_pos ⟨rfl, rfl, rfl⟩
theorem duties_own (k : Fin 7 ⊕ Fin 7) : (ringRd (F := F) m).duties ((c : Thread nD τ), osem k) 0 = {0} := by
  dsimp only [ringRd]; rw [if_neg (fun h => osem_ne_bar k h.2.2)]; exact if_pos ⟨rfl, rfl, k, rfl⟩
theorem duties_send : (ringRd (F := F) m).duties (sendCell c j) 0 = {0} := duties_own m c (.inl j)
theorem duties_recv : (ringRd (F := F) m).duties (recvCell c j) 0 = {0} := duties_own m c (.inr j)
theorem duties_later (g : GSem nD τ sig) : ∀ r, 1 ≤ r → (ringRd (F := F) m).duties g r = ∅ :=
  fun r hr => by dsimp only [ringRd]; rw [if_neg fun h => by omega, if_neg fun h => by omega]

theorem amount_bar (d : Fin 7) : (ringRd (F := F) m).amount (barCell c) 0 d = 1 := by dsimp only [ringRd]; exact if_pos rfl
theorem amount_send (d : Fin 7) : (ringRd (F := F) m).amount (sendCell c j) 0 d = N := by dsimp only [ringRd]; exact if_neg (dma_ne_bar _)
theorem amount_recv (d : Fin 7) : (ringRd (F := F) m).amount (recvCell c j) 0 d = N := by dsimp only [ringRd]; exact if_neg (dma_ne_bar _)

theorem expect_bar : (ringRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c j) 0 = N := by
  unfold Schedule.expect Schedule.amountOf; rw [duties_recv, Finset.sum_singleton, amount_recv]

theorem payload_bar (d : Fin 7) : (ringRd (F := F) m).payload (barCell c) 0 d = barPay c d := rfl
theorem payload_send (d : Fin 7) : (ringRd (F := F) m).payload (sendCell c j) 0 d = sendPay m c j := by
  show xferPay m c (semAt cc0_scratch1 j).val = _
  have h : (⟨(6 + j.val - 6) % 7, Nat.mod_lt _ (by decide)⟩ : Fin 7) = j := Fin.ext (by have := j.isLt; show (6 + j.val - 6) % 7 = j.val; omega)
  rw [sendNo]; unfold xferPay; rw [if_neg (by have := j.isLt; omega), h]
theorem payload_recv (d : Fin 7) : (ringRd (F := F) m).payload (recvCell c j) 0 d = recvPay m c j := by
  show xferPay m c (semAt cc0_scratch2 j).val = _
  have h : (⟨(13 + j.val - 13) % 7, Nat.mod_lt _ (by decide)⟩ : Fin 7) = j := Fin.ext (by have := j.isLt; show (13 + j.val - 13) % 7 = j.val; omega)
  rw [recvNo]; unfold xferPay; rw [if_pos (by omega), h]

theorem rest_bar : bigSep ((ringRd (F := F) m).duties (barCell c) 0 \ ∅) (fun d => (ringRd (F := F) m).payload (barCell c) 0 d)
    = sepL all7 fun d => barPay c d := by
  rw [Finset.sdiff_empty, duties_bar, bigSep_all7]; rfl
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c j) 0 \ ∅) (fun d => (ringRd (F := F) m).payload (recvCell c j) 0 d) = recvPay m c j := by
  rw [Finset.sdiff_empty, duties_recv, bigSep_singleton, payload_recv]

end Sched

/-! ## What each device owes at launch; the levels -/

/-- The credit of the copies still to be sent. -/
def oRecv (c : Dev nD) : List (Fin 7) → CellTallies nD τ sig Unit
  | [] => 0
  | j :: js => oRecv c js + tallyAt (recvCell (fwd j c) j) () N
/-- That of all copies and the signals still to be sent. -/
def oBar (c : Dev nD) : List (Fin 7) → CellTallies nD τ sig Unit
  | [] => oRecv c all7
  | j :: js => oBar c js + tallyAt (barCell (fwd j c)) () 1
def O₀ (c : Dev nD) : CellTallies nD τ sig Unit := oBar c all7

def L (g : GSem nD τ sig) : Finset Unit := if g.1.2 = .tc then {()} else ∅
abbrev IsRecv (s : SemLoc sig) : Prop := ∃ j, s = .dma (semAt cc0_scratch2 j)
/-- barrier cells at 1, receive cells at 2, everything else at 0. -/
def lv (g : GSem nD τ sig) (_ : Unit) : ℕ := if g.2 = .reg bar then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem add_pos_or {O : CellTallies nD τ sig Unit} {g' g : GSem nD τ sig} {n : ℕ} {u : Unit}
    (h : 0 < (O + tallyAt g' () n) g u) : 0 < O g u ∨ g = g' := by
  by_cases hg : g = g'
  · exact .inr hg
  · rw [Pi.add_apply, Finsupp.add_apply, tallyAt_apply, if_neg (fun h' => hg h'.1), Nat.add_zero] at h; exact .inl h

theorem oRecv_pos {c : Dev nD} {g : GSem nD τ sig} {u : Unit} : ∀ {l : List (Fin 7)}, 0 < oRecv c l g u → ∃ d j, g = recvCell d j
  | [], h => absurd h (Nat.lt_irrefl 0)
  | j :: js, h => (add_pos_or h).elim oRecv_pos fun h => ⟨_, _, h⟩

theorem oBar_pos {c : Dev nD} {g : GSem nD τ sig} {u : Unit} : ∀ {l : List (Fin 7)}, 0 < oBar c l g u → (∃ d j, g = recvCell d j) ∨ ∃ d, g = barCell d
  | [], h => .inl (oRecv_pos h)
  | j :: js, h => (add_pos_or h).elim oBar_pos fun h => .inr ⟨_, h⟩

theorem lv_bar (c : Dev nD) (u : Unit) : lv (barCell c) u = 1 := by dsimp only [lv]; exact if_pos rfl
theorem lv_recv (c : Dev nD) (j : Fin 7) (u : Unit) : lv (recvCell c j) u = 2 := by
  dsimp only [lv]; rw [if_neg (dma_ne_bar _)]; exact if_pos ⟨j, rfl⟩

theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oBar_pos hg with ⟨d, j, rfl⟩ | ⟨d, rfl⟩ <;> exact Finset.mem_singleton_self _)
      (fun p hp => by rw [Finset.mem_singleton.mp hp]; dsimp only [lv]; rw [if_neg (dma_ne_bar _), if_neg hq])
      (fun g u hg => by
        rcases oBar_pos hg with ⟨d, j, rfl⟩ | ⟨d, rfl⟩
        · rw [lv_recv]; decide
        · rw [lv_bar]; decide)
  · rw [MayWait_zero]; iintro -; iempintro

theorem mayWait_bar (c : Dev nD) : (levAts L lv : sProp 𝕄) ⊢ MayWait (c : Thread nD τ) (.reg bar) () (oRecv c all7) :=
  MayOwe.of_cut (L := L) (lev := lv) 1 (fun p hp => by rw [Finset.mem_singleton.mp hp, L_tc]; exact Finset.mem_singleton_self _)
    (fun g u hg => by obtain ⟨d, j, rfl⟩ := oRecv_pos hg; exact Finset.mem_singleton_self _)
    (fun p hp => by rw [Finset.mem_singleton.mp hp]; exact le_of_eq (lv_bar c ()))
    (fun g u hg => by obtain ⟨d, j, rfl⟩ := oRecv_pos hg; rw [lv_recv]; decide)

end Cert.KernelIdeal.Proto

end
-- ==== Proof.Mem.lean ====
/- The kernel's loads and stores as facts about contents. -/
module

public import proofs.«01_k».proof.Proof.Proto

@[expose] public section

noncomputable section

namespace Cert.KernelIdeal.Proto

open Cert.KernelIdeal Cert.KernelIdeal.Gen Cert.KernelIdeal.Alg

open Idealize.ShloMosaic
open Idealize.ShloMosaic.TcCoe
open Idealize.ShloMosaic.ValueIdx

variable {F : FTy → Type} [FloatOps F] [Named F]
variable (m : (ℓ : Loc nD τ sig) → Buf (Elt F) ℓ)

theorem hz2 : (![0, 0] : Fin 2 → Nat) = fun _ => 0 := funext fun a => by fin_cases a <;> rfl

theorem read_wq (f : (cc0_stg1_0 : Ref sig .tc).ty.Contents (Elt F)) :
    (Memref.whole cc0_stg1_0 : Memref sig .tc .vmem S512x256 .f32).view.readAt (Elt F) rW.toLoadRect f = f :=
  Memref.readAt_unit_zero (Elt F) cc0_stg1_0 hz2 _ f
theorem read_wk (f : (cc0_stg2_0 : Ref sig .tc).ty.Contents (Elt F)) :
    (Memref.whole cc0_stg2_0 : Memref sig .tc .vmem S512x256 .f32).view.readAt (Elt F) rW.toLoadRect f = f :=
  Memref.readAt_unit_zero (Elt F) cc0_stg2_0 hz2 _ f
theorem read_wv (f : (cc0_stg3_0 : Ref sig .tc).ty.Contents (Elt F)) :
    (Memref.whole cc0_stg3_0 : Memref sig .tc .vmem S512x256 .f32).view.readAt (Elt F) rW.toLoadRect f = f :=
  Memref.readAt_unit_zero (Elt F) cc0_stg3_0 hz2 _ f
theorem read_wo (f : (cc0_stg4_0 : Ref sig .tc).ty.Contents (Elt F)) :
    (Memref.whole cc0_stg4_0 : Memref sig .tc .vmem S256x512 .f32).view.readAt (Elt F) rWo.toLoadRect f = f :=
  Memref.readAt_unit_zero (Elt F) cc0_stg4_0 hz2 _ f

theorem read_x0 (c : Dev nD) :
    (Memref.whole cc0_stg0_0 : Memref sig .tc .vmem S2x128x512 .f32).view.readAt (Elt F) rX0.toLoadRect (xin m c) = xrow m c 0 := by
  funext i
  refine congrArg (xin m c) (funext fun a => Fin.ext ?_)
  have h0 := (i 0).isLt; change (i 0).val < 1 at h0
  match a with
  | ⟨0, _⟩ => show 0 + 1 * (i 0).val = 0; omega
  | ⟨1, _⟩ => show 0 + 1 * (i 1).val = (i 1).val; omega
  | ⟨2, _⟩ => show 0 + 1 * (i 2).val = (i 2).val; omega

theorem read_x1 (c : Dev nD) :
    (Memref.whole cc0_stg0_0 : Memref sig .tc .vmem S2x128x512 .f32).view.readAt (Elt F) rX1.toLoadRect (xin m c) = xrow m c 1 := by
  funext i
  refine congrArg (xin m c) (funext fun a => Fin.ext ?_)
  have h0 := (i 0).isLt; change (i 0).val < 1 at h0
  match a with
  | ⟨0, _⟩ => show 1 + 1 * (i 0).val = 1; omega
  | ⟨1, _⟩ => show 0 + 1 * (i 1).val = (i 1).val; omega
  | ⟨2, _⟩ => show 0 + 1 * (i 2).val = (i 2).val; omega

/-- A load of one batch of one slot. -/
theorem read_scr (off : Fin 4 → ℕ) (inb : ∀ a, off a + S1x1x256x256.size a ≤ S8x2x256x256.size a) (o : Dev nD) (b : Fin 2)
    (h0 : off 0 = o.val) (h1 : off 1 = b.val) (h2 : off 2 = 0) (h3 : off 3 = 0) :
    scr.view.readAt (Elt F) (Rect.unit (s := S8x2x256x256) off S1x1x256x256.size inb).toLoadRect (gath m) = kvAt m o b := by
  funext i
  have e0 := (i 0).isLt; change (i 0).val < 1 at e0
  have e1 := (i 1).isLt; change (i 1).val < 1 at e1
  have hix : (Rect.unit (s := S8x2x256x256) off S1x1x256x256.size inb).toLoadRect.idx i
      = (ix4 (o : Fin 8) b (⟨(i 2).val, (i 2).isLt⟩ : Fin 256) (⟨(i 3).val, (i 3).isLt⟩ : Fin 256) : S8x2x256x256.Idx) := by
    funext a; apply Fin.ext
    match a with
    | ⟨0, _⟩ => show off 0 + 1 * (i 0).val = o.val; omega
    | ⟨1, _⟩ => show off 1 + 1 * (i 1).val = b.val; omega
    | ⟨2, _⟩ => show off 2 + 1 * (i 2).val = (i 2).val; omega
    | ⟨3, _⟩ => show off 3 + 1 * (i 3).val = (i 3).val; omega
  exact congrArg (gath m) hix

theorem read_own0 (c : Dev nD) : scr.view.readAt (Elt F) (rOwn0 c).toLoadRect (gath m) = kvAt m c 0 := by
  have e := k0_off6_eq c
  exact read_scr m _ _ c 0 (by rw [e]; rfl) (by rw [e]; rfl) (by rw [e]; rfl) (by rw [e]; rfl)
theorem read_own1 (c : Dev nD) : scr.view.readAt (Elt F) (rOwn1 c).toLoadRect (gath m) = kvAt m c 1 := by
  have e := k0_off7_eq c
  exact read_scr m _ _ c 1 (by rw [e]; rfl) (by rw [e]; rfl) (by rw [e]; rfl) (by rw [e]; rfl)
theorem read_in0 (c : Dev nD) (j : Fin 7) : scr.view.readAt (Elt F) (rIn0 c j).toLoadRect (gath m) = kvAt m (bwd j c) 0 := by
  have e := k0_off9_eq c j
  exact read_scr m _ _ (bwd j c) 0 (by rw [e]; rfl) (by rw [e]; rfl) (by rw [e]; rfl) (by rw [e]; rfl)
theorem read_in1 (c : Dev nD) (j : Fin 7) : scr.view.readAt (Elt F) (rIn1 c j).toLoadRect (gath m) = kvAt m (bwd j c) 1 := by
  have e := k0_off10_eq c j
  exact read_scr m _ _ (bwd j c) 1 (by rw [e]; rfl) (by rw [e]; rfl) (by rw [e]; rfl) (by rw [e]; rfl)

/-- What such a rectangle covers lies in the slot. -/
theorem set_sub_slot (off size : Fin 4 → ℕ) (inb : ∀ a, off a + size a ≤ S8x2x256x256.size a) (o : Dev nD) (h0 : off 0 = o.val) (hs : size 0 = 1) :
    scr.view.setOn (Rect.unit (s := S8x2x256x256) off size inb).toLoadRect.set ⊆ slotSet o := by
  intro i hi
  have hi' : i ∈ (Rect.unit (s := S8x2x256x256) off size inb).set := by
    obtain ⟨y, hy, rfl⟩ := Finset.mem_map.mp hi; exact hy
  have h := (Rect.mem_set_unit.mp hi') 0
  exact mem_slotSet.mpr (by omega)

theorem acc_sub_slot (off size : Fin 4 → ℕ) (inb : ∀ a, off a + size a ≤ S8x2x256x256.size a) (o : Dev nD) (h0 : off 0 = o.val) (hs : size 0 = 1) :
    (scr.access (Rect.unit (s := S8x2x256x256) off size inb) : View sig .tc _ _ _).setOn Finset.univ ⊆ slotSet o := by
  rw [View.setOn_univ]
  refine (subset_of_eq (View.set_slice_whole cc0_scratch0 _)).trans ?_
  intro i hi
  have h := (Rect.mem_set_unit.mp hi) 0
  exact mem_slotSet.mpr (by omega)

/-- A store, read back where it wrote; -/
theorem write_hit (off size : Fin 4 → ℕ) (inb : ∀ a, off a + size a ≤ S8x2x256x256.size a)
    (f : (cc0_scratch0 : Ref sig .tc).ty.Contents (Elt F)) (w : Vec F ⟨4, size⟩ .bf16) (i : (cc0_scratch0 : Ref sig .tc).ty.shape.Idx)
    (y : (⟨4, size⟩ : Shape).Idx) (h : ∀ a, (i a).val = off a + (y a).val) :
    (scr.access (Rect.unit (s := S8x2x256x256) off size inb) : View sig .tc _ _ _).write (Elt F) f w Finset.univ i = w y := by
  have hi : i = (scr.access (Rect.unit (s := S8x2x256x256) off size inb) : View sig .tc _ _ _).emb y := by
    funext a; apply Fin.ext; rw [h a]; show _ = off a + 1 * (y a).val; omega
  rw [hi]; exact View.write_emb_of_mem _ _ (Finset.mem_univ _)

/-- and where it did not. -/
theorem write_miss (off size : Fin 4 → ℕ) (inb : ∀ a, off a + size a ≤ S8x2x256x256.size a)
    (f : (cc0_scratch0 : Ref sig .tc).ty.Contents (Elt F)) (w : Vec F ⟨4, size⟩ .bf16) (i : (cc0_scratch0 : Ref sig .tc).ty.shape.Idx)
    (a : Fin 4) (h : (i a).val < off a ∨ off a + size a ≤ (i a).val) :
    (scr.access (Rect.unit (s := S8x2x256x256) off size inb) : View sig .tc _ _ _).write (Elt F) f w Finset.univ i = f i := by
  refine View.write_of_not_mem _ _ _ ?_
  rw [View.setOn_univ]
  intro hi
  have hi' : i ∈ (Rect.unit (s := S8x2x256x256) off size inb).set := by
    rw [← View.set_slice_whole cc0_scratch0 (Rect.unit (s := S8x2x256x256) off size inb)]; exact hi
  have h' := (Rect.mem_set_unit.mp hi') a
  omega

/-- The four stores leave the own slot holding what every device is to gather. -/
def stored (c : Dev nD) (f : (cc0_scratch0 : Ref sig .tc).ty.Contents (Elt F)) (w1 w2 w3 w4 : FVec F S1x1x128x256 .bf16) :
    (cc0_scratch0 : Ref sig .tc).ty.Contents (Elt F) :=
  (scr.access (rSt4 c) : View sig .tc _ _ _).write (Elt F)
    ((scr.access (rSt3 c) : View sig .tc _ _ _).write (Elt F)
      ((scr.access (rSt2 c) : View sig .tc _ _ _).write (Elt F)
        ((scr.access (rSt1 c) : View sig .tc _ _ _).write (Elt F) f w1 Finset.univ) w2 Finset.univ) w3 Finset.univ) w4 Finset.univ

theorem stored_eq (c : Dev nD) (f : (cc0_scratch0 : Ref sig .tc).ty.Contents (Elt F)) (i : (cc0_scratch0 : Ref sig .tc).ty.shape.Idx) (hi : i ∈ slotSet c) :
    stored c f (kBlk c (wkin m c) (xrow m c 0)) (vBlk (wvin m c) (xrow m c 0)) (kBlk c (wkin m c) (xrow m c 1)) (vBlk (wvin m c) (xrow m c 1)) i = gath m i := by
  have hc := mem_slotSet.mp hi
  have e1 := k0_off1_eq c
  have e2 := k0_off2_eq c
  have e3 := k0_off3_eq c
  have e4 := k0_off4_eq c
  have h1 := (i 1).isLt; change (i 1).val < 2 at h1
  have h2 := (i 2).isLt; change (i 2).val < 256 at h2
  have hco : (⟨(i 0).val, (i 0).isLt⟩ : Fin 8) = c := Fin.ext hc
  have g1 : ∀ f' w, (i 1).val ≠ 0 ∨ 128 ≤ (i 2).val → (scr.access (rSt1 c) : View sig .tc _ _ _).write (Elt F) f' w Finset.univ i = f' i := by
    intro f' w h
    rcases h with h | h
    · refine write_miss _ _ _ _ _ _ 1 (.inr ?_); rw [e1]; show 0 + 1 ≤ (i 1).val; omega
    · refine write_miss _ _ _ _ _ _ 2 (.inr ?_); rw [e1]; show 0 + 128 ≤ (i 2).val; omega
  have g2 : ∀ f' w, (i 1).val ≠ 0 ∨ (i 2).val < 128 → (scr.access (rSt2 c) : View sig .tc _ _ _).write (Elt F) f' w Finset.univ i = f' i := by
    intro f' w h
    rcases h with h | h
    · refine write_miss _ _ _ _ _ _ 1 (.inr ?_); rw [e2]; show 0 + 1 ≤ (i 1).val; omega
    · refine write_miss _ _ _ _ _ _ 2 (.inl ?_); rw [e2]; show (i 2).val < 128; omega
  have g3 : ∀ f' w, (i 1).val = 0 ∨ 128 ≤ (i 2).val → (scr.access (rSt3 c) : View sig .tc _ _ _).write (Elt F) f' w Finset.univ i = f' i := by
    intro f' w h
    rcases h with h | h
    · refine write_miss _ _ _ _ _ _ 1 (.inl ?_); rw [e3]; show (i 1).val < 1; omega
    · refine write_miss _ _ _ _ _ _ 2 (.inr ?_); rw [e3]; show 0 + 128 ≤ (i 2).val; omega
  have g4 : ∀ f' w, (i 1).val = 0 ∨ (i 2).val < 128 → (scr.access (rSt4 c) : View sig .tc _ _ _).write (Elt F) f' w Finset.univ i = f' i := by
    intro f' w h
    rcases h with h | h
    · refine write_miss _ _ _ _ _ _ 1 (.inl ?_); rw [e4]; show (i 1).val < 1; omega
    · refine write_miss _ _ _ _ _ _ 2 (.inl ?_); rw [e4]; show (i 2).val < 128; omega
  unfold stored gath gathAt
  rw [hco]
  have hb : (i 1).val = 0 ∨ (i 1).val = 1 := by omega
  by_cases hr : (i 2).val < 128
  · rw [dif_pos hr]
    rcases hb with hb | hb
    · have hbb : (⟨(i 1).val, (i 1).isLt⟩ : Fin 2) = 0 := Fin.ext hb
      rw [hbb, g4 _ _ (.inl hb), g3 _ _ (.inl hb), g2 _ _ (.inr hr)]
      refine write_hit _ _ _ _ _ _ _ ?_
      intro a; rw [e1]
      match a with
      | ⟨0, _⟩ => exact hc
      | ⟨1, _⟩ => exact hb
      | ⟨2, _⟩ => exact (Nat.zero_add _).symm
      | ⟨3, _⟩ => exact (Nat.zero_add _).symm
    · have hbb : (⟨(i 1).val, (i 1).isLt⟩ : Fin 2) = 1 := Fin.ext hb
      rw [hbb, g4 _ _ (.inr hr)]
      refine write_hit _ _ _ _ _ _ _ ?_
      intro a; rw [e3]
      match a with
      | ⟨0, _⟩ => exact hc
      | ⟨1, _⟩ => exact hb
      | ⟨2, _⟩ => exact (Nat.zero_add _).symm
      | ⟨3, _⟩ => exact (Nat.zero_add _).symm
  · rw [dif_neg hr]
    rcases hb with hb | hb
    · have hbb : (⟨(i 1).val, (i 1).isLt⟩ : Fin 2) = 0 := Fin.ext hb
      rw [hbb, g4 _ _ (.inl hb), g3 _ _ (.inl hb)]
      refine write_hit _ _ _ _ _ _ _ ?_
      intro a; rw [e2]
      match a with
      | ⟨0, _⟩ => exact hc
      | ⟨1, _⟩ => exact hb
      | ⟨2, _⟩ => show (i 2).val = 128 + ((i 2).val - 128); omega
      | ⟨3, _⟩ => exact (Nat.zero_add _).symm
    · have hbb : (⟨(i 1).val, (i 1).isLt⟩ : Fin 2) = 1 := Fin.ext hb
      rw [hbb]
      refine write_hit _ _ _ _ _ _ _ ?_
      intro a; rw [e4]
      match a with
      | ⟨0, _⟩ => exact hc
      | ⟨1, _⟩ => exact hb
      | ⟨2, _⟩ => show (i 2).val = 128 + ((i 2).val - 128); omega
      | ⟨3, _⟩ => exact (Nat.zero_add _).symm

/-! ## The result -/

/-- The running sums after the blocks of `l`. -/
def foldS (c : Dev nD) (q0 q1 : FVec F S128x256 .bf16) (l : List (Fin 7)) (s : St F) : St F :=
  l.foldl (fun s j => consume q0 q1 (kvAt m (bwd j c) 0) (kvAt m (bwd j c) 1) s) s

def qAt (c : Dev nD) (b : Fin 2) : FVec F S128x256 .bf16 := qBlk c (wqin m c) (xrow m c b)

/-- The running sums once all eight blocks are in. -/
def stAt (c : Dev nD) : St F :=
  foldS m c (qAt m c 0) (qAt m c 1) all7 (consume (qAt m c 0) (qAt m c 1) (kvAt m c 0) (kvAt m c 1) acc0)

/-- What device `c` leaves in its output staging buffer. -/
def outAt (c : Dev nD) : (cc0_stg5_0 : Ref sig .tc).ty.Contents (Elt F) :=
  fun i => oBlk (stAt m c (⟨(i 0).val, (i 0).isLt⟩ : Fin 2)) (woin m c) (ix3 (0 : Fin 1) (⟨(i 1).val, (i 1).isLt⟩ : Fin 128) (⟨(i 2).val, (i 2).isLt⟩ : Fin 512))

theorem write_out (c : Dev nD) (f : (cc0_stg5_0 : Ref sig .tc).ty.Contents (Elt F)) :
    ((Memref.whole cc0_stg5_0 : Memref sig .tc .vmem S2x128x512 .f32).access rX1 : View sig .tc _ _ _).write (Elt F)
      (((Memref.whole cc0_stg5_0 : Memref sig .tc .vmem S2x128x512 .f32).access rX0 : View sig .tc _ _ _).write (Elt F) f
        (oBlk (stAt m c 0) (woin m c)) Finset.univ)
      (oBlk (stAt m c 1) (woin m c)) Finset.univ = outAt m c := by
  funext i
  have h0 := (i 0).isLt; change (i 0).val < 2 at h0
  have hb : (i 0).val = 0 ∨ (i 0).val = 1 := by omega
  unfold outAt
  rcases hb with hb | hb
  · have hbb : (⟨(i 0).val, (i 0).isLt⟩ : Fin 2) = 0 := Fin.ext hb
    rw [hbb, View.write_of_not_mem]
    · have hi : i = ((Memref.whole cc0_stg5_0 : Memref sig .tc .vmem S2x128x512 .f32).access rX0 : View sig .tc _ _ _).emb
          (ix3 (0 : Fin 1) (⟨(i 1).val, (i 1).isLt⟩ : Fin 128) (⟨(i 2).val, (i 2).isLt⟩ : Fin 512)) := by
        funext a; apply Fin.ext
        match a with
        | ⟨0, _⟩ => show (i 0).val = 0 + 1 * 0; omega
        | ⟨1, _⟩ => show (i 1).val = 0 + 1 * (i 1).val; omega
        | ⟨2, _⟩ => show (i 2).val = 0 + 1 * (i 2).val; omega
      conv_lhs => rw [hi]
      exact View.write_emb_of_mem _ _ (Finset.mem_univ _)
    · rw [View.setOn_univ]
      intro hi
      have hi' : i ∈ rX1.set := by rw [← View.set_slice_whole cc0_stg5_0 rX1]; exact hi
      have h := (Rect.mem_set_unit.mp hi') 0
      have h' : 1 ≤ (i 0).val := h.1
      omega
  · have hbb : (⟨(i 0).val, (i 0).isLt⟩ : Fin 2) = 1 := Fin.ext hb
    rw [hbb]
    have hi : i = ((Memref.whole cc0_stg5_0 : Memref sig .tc .vmem S2x128x512 .f32).access rX1 : View sig .tc _ _ _).emb
        (ix3 (0 : Fin 1) (⟨(i 1).val, (i 1).isLt⟩ : Fin 128) (⟨(i 2).val, (i 2).isLt⟩ : Fin 512)) := by
      funext a; apply Fin.ext
      match a with
      | ⟨0, _⟩ => show (i 0).val = 1 + 1 * 0; omega
      | ⟨1, _⟩ => show (i 1).val = 0 + 1 * (i 1).val; omega
      | ⟨2, _⟩ => show (i 2).val = 0 + 1 * (i 2).val; omega
    conv_lhs => rw [hi]
    exact View.write_emb_of_mem _ _ (Finset.mem_univ _)

end Cert.KernelIdeal.Proto

end
-- ==== Proof.Loops.lean ====
/- The kernel's four runs of seven: signals, copies, receives, and waits for the copies sent. -/
module

public import proofs.«01_k».proof.Proof.Mem

@[expose] public section

noncomputable section

namespace Cert.KernelIdeal.Proto

open Cert.KernelIdeal Cert.KernelIdeal.Gen Cert.KernelIdeal.Alg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- Every cell's invariant, and that every cell is at its round 0. -/
def records (K : Dev nD × CK → ℕ) : sProp 𝕄 :=
  iprop((bigSep Finset.univ fun ck => cellInv ER (ringRd m) (K ck) (kcell ck)) ∗ bigSep Finset.univ fun ck => reached ER (kcell ck) 0)

instance records_persistent (K : Dev nD × CK → ℕ) : Persistent (records (F := F) m K) := by unfold records; infer_instance

variable (K : Dev nD × CK → ℕ)

theorem inv_at (ck : Dev nD × CK) : records (F := F) m K ⊢ cellInv ER (ringRd m) (K ck) (kcell ck) :=
  (BI.Entails.trans BI.sep_and BI.and_elimL).trans (bigSep_elim (Φ := fun ck => cellInv ER (ringRd m) (K ck) (kcell ck)) (Finset.mem_univ ck))

theorem reached_at (ck : Dev nD × CK) : records (F := F) m K ⊢ reached ER (kcell ck) 0 :=
  (BI.Entails.trans BI.sep_and BI.and_elimR).trans (bigSep_elim (Φ := fun ck => (reached ER (kcell ck) 0 : sProp 𝕄)) (Finset.mem_univ ck))

variable (c : Dev nD)

/-- The program running on device `c`. -/
abbrev run (p : P F) (Q : PUnit → sProp 𝕄) : sProp 𝕄 := wp frame (wpE (defs₀ (F := F)) 𝒱₀ (c : Thread nD τ) none) Set.univ p Q

/-- One signal. -/
theorem sig_step (j : Fin 7) (d : Dev nD) (hd : d = fwd j c) (k : P F) (Q : PUnit → sProp 𝕄) (W : Waits sig Unit) (O : CellTallies nD τ sig Unit) :
    iprop(records m K ∗ owes (c : Thread nD τ) (O + tallyAt (barCell (fwd j c)) () 1) W
        ∗ dutyTok ER (barCell (fwd j c)) 0 (Fin.rev j) ∗ (∃ f, slotPts c (fwd j c) fullShare f))
      ⊢ iprop((owes (c : Thread nD τ) O W -∗ run c k Q)
          -∗ run c (.op (.semSignal (d, .tc) bar (1#32 : BitVec 32).toInt) fun _ => k) Q) := by
  subst hd
  iintro ⟨#HR, HO, Ht, Hs⟩ Hk
  iapply (Rounds.wp_signal 𝒱₀ ER (ringRd m) (c : Thread nD τ) none (dst := (fwd j c : Thread nD τ)) (κ := K (fwd j c, .inl ()))
      (d := Fin.rev j) (by rw [duties_bar]; exact Finset.mem_univ _) ((amount_bar m (fwd j c) (Fin.rev j)).trans (by decide)) () O rfl)
    $$ [HO Ht Hs]
  · isplitr; · iapply (inv_at m K (fwd j c, .inl ())); iexact HR
    isplitl [HO]; · iexact HO
    isplitl [Ht]; · iexact Ht
    isplitl [Hs]
    · rw [payload_bar]; unfold barPay; rw [fwd_rev]; iexact Hs
    · iapply (reached_at m K (fwd j c, .inl ())); iexact HR
  iexact Hk

theorem sig_loop (k : P F) (Q : PUnit → sProp 𝕄) (W : Waits sig Unit) : ∀ js : List (Fin 7),
    iprop(records m K ∗ owes (c : Thread nD τ) (oBar c js) W
        ∗ sepL js (fun j => dutyTok ER (barCell (fwd j c)) 0 (Fin.rev j)) ∗ sepL js (fun j => iprop(∃ f, slotPts c (fwd j c) fullShare f)))
      ⊢ iprop((owes (c : Thread nD τ) (oRecv c all7) W -∗ run c k Q) -∗ run c (progSig c k js) Q)
  | [] => by
    unfold progSig oBar
    iintro ⟨-, HO, -, -⟩ Hk
    iapply Hk; iexact HO
  | j :: js => by
    unfold progSig oBar sepL
    iintro ⟨#HR, HO, ⟨Ht, Hts⟩, ⟨Hs, Hss⟩⟩ Hk
    iapply (sig_step m K c j _ (devS_eq c j) (progSig c k js) Q W (oBar c js)) $$ [HO Ht Hs]
    · isplitr; · iexact HR
      isplitl [HO]; · iexact HO
      isplitl [Ht]; · iexact Ht
      iexact Hs
    iintro HO
    iapply (sig_loop k Q W js) $$ [HO Hts Hss]
    · isplitr; · iexact HR
      isplitl [HO]; · iexact HO
      isplitl [Hts]; · iexact Hts
      iexact Hss
    iexact Hk

/-- What a copy leaves in the slot it fills. -/
theorem landed_eq (o : Dev nD) (f : (slotOwn o).view.ty.Contents (Elt F)) (i) (hi : i ∈ (slotOwn o).view.set) :
    (slotOwn o).view.write (Elt F) f ((slotOwn o).view.read (Elt F) (gath m)) Finset.univ i = gath m i :=
  (congrFun (View.write_read_eq_piecewise (v := (slotOwn o).view) f (gath m) Finset.univ) i).trans
    (Finset.piecewise_eq_of_mem _ _ _ (by rw [View.setOn_univ]; exact hi))

/-- The own slot as the copies name it. -/
def viewPts (d o : Dev nD) (q : PosShare TreeShare) (f : (slotOwn o).view.ty.Contents (Elt F)) : sProp 𝕄 :=
  ((slotOwn o).view.loc (d : Thread nD τ)) ↦[(slotOwn o).view.set]{q} f

theorem viewPts_eq (d o : Dev nD) (q : PosShare TreeShare) (f : (cc0_scratch0 : Ref sig .tc).ty.Contents (Elt F)) :
    (viewPts d o q f : sProp 𝕄) = slotPts d o q f := slotPts_own d o q f

theorem pay_send (j : Fin 7) : (viewPts c c (shr j) (gath m) : sProp 𝕄) ⊢ (ringRd (F := F) m).payload (sendCell c j) 0 0 := by
  rw [payload_send]; unfold sendPay; rw [← viewPts_eq]

theorem pay_recv (j : Fin 7) (f : (slotOwn c).view.ty.Contents (Elt F)) :
    (viewPts (fwd j c) c fullShare ((slotOwn c).view.write (Elt F) f ((slotOwn c).view.read (Elt F) (gath m)) Finset.univ) : sProp 𝕄)
      ⊢ (ringRd (F := F) m).payload (recvCell (fwd j c) j) 0 0 := by
  rw [payload_recv]; unfold recvPay; rw [bwd_fwd, ← viewPts_eq]
  unfold viewPts
  exact Entails.of_eq (pointsTo_congr fun i hi => landed_eq m c f i hi)

theorem send_core (j : Fin 7) (k : P F) (Q : PUnit → sProp 𝕄) (W : Waits sig Unit) (O : CellTallies nD τ sig Unit)
    (fd : (slotOwn c).view.ty.Contents (Elt F)) :
    iprop(cellInv ER (ringRd m) (K (c, .inr (.inl j))) (sendCell c j) ∗ cellInv ER (ringRd m) (K (fwd j c, .inr (.inr j))) (recvCell (fwd j c) j)
        ∗ viewPts c c (shr j) (gath m) ∗ viewPts (fwd j c) c fullShare fd
        ∗ owes (c : Thread nD τ) (O + tallyAt (recvCell (fwd j c) j) () N) W
        ∗ dutyTok ER (sendCell c j) 0 0 ∗ reached ER (sendCell c j) 0
        ∗ dutyTok ER (recvCell (fwd j c) j) 0 0 ∗ reached ER (recvCell (fwd j c) j) 0)
      ⊢ iprop(((cred (tallyAt (sendCell c j) () N) ∗ owes (c : Thread nD τ) O W) -∗ run c k Q)
          -∗ run c (.op (.enqueueDma (slotOwn c) (.remote (Dev.tc (fwd j c)) (slotOwn c) (.dma (semAt cc0_scratch1 j))) (.dma (semAt cc0_scratch2 j))
              (slotOwn_words c) (slotOwn_words c) ⟨⟨rfl, Or.inl rfl⟩, trivial⟩) fun _ => k) Q) :=
  Rounds.wp_send_pointsTo 𝒱₀ ER (ringRd m) (c : Thread nD τ) none (κ₁ := K (c, .inr (.inl j))) (κ₂ := K (fwd j c, .inr (.inr j)))
    (c' := (fwd j c : Thread nD τ)) (src := slotOwn c) (dst := slotOwn c) (sS := .dma (semAt cc0_scratch1 j)) (sem := .dma (semAt cc0_scratch2 j))
    (k := fun _ => k) (q := shr j) (fs := gath m) (Q := Q) (O₀ := O + tallyAt (recvCell (fwd j c) j) () N)
    (r₁ := 0) (r₂ := 0) (d₁ := 0) (d₂ := 0) (fd := fd)
    (by rw [duties_send]; exact Finset.mem_singleton_self _) (by rw [duties_recv]; exact Finset.mem_singleton_self _)
    () () N (N_own c) (amount_send m c j 0) (amount_recv m (fwd j c) j 0) O rfl (W := W)
    (pay_send m c j) (pay_recv m c j fd)

/-- One copy. -/
theorem send_step (j : Fin 7) (n : Dev nD) (hn : n = fwd j c) (k : P F) (Q : PUnit → sProp 𝕄) (W : Waits sig Unit) (O : CellTallies nD τ sig Unit) :
    iprop(records m K ∗ owes (c : Thread nD τ) (O + tallyAt (recvCell (fwd j c) j) () N) W
        ∗ (∃ f, slotPts (fwd j c) c fullShare f) ∗ slotPts c c (shr j) (gath m)
        ∗ dutyTok ER (sendCell c j) 0 0 ∗ dutyTok ER (recvCell (fwd j c) j) 0 0)
      ⊢ iprop(((cred (tallyAt (sendCell c j) () N) ∗ owes (c : Thread nD τ) O W) -∗ run c k Q)
          -∗ run c (.op (.enqueueDma (slotOwn c) (.remote (Dev.tc n) (slotOwn c) (.dma (semAt cc0_scratch1 j))) (.dma (semAt cc0_scratch2 j))
              (slotOwn_words c) (slotOwn_words c) ⟨⟨rfl, Or.inl rfl⟩, trivial⟩) fun _ => k) Q) := by
  subst hn
  iintro ⟨#HR, HO, ⟨%fd, Hd⟩, Hs, Ht1, Ht2⟩ Hk
  ihave Hd' := (Entails.of_eq (viewPts_eq (fwd j c) c fullShare fd).symm) $$ Hd
  ihave Hs' := (Entails.of_eq (viewPts_eq c c (shr j) (gath m)).symm) $$ Hs
  iapply (send_core m K c j k Q W O fd) $$ [HO Hd' Hs' Ht1 Ht2]
  · isplitr; · iapply (inv_at m K (c, .inr (.inl j))); iexact HR
    isplitr; · iapply (inv_at m K (fwd j c, .inr (.inr j))); iexact HR
    isplitl [Hs']; · iexact Hs'
    isplitl [Hd']; · iexact Hd'
    isplitl [HO]; · iexact HO
    isplitl [Ht1]; · iexact Ht1
    isplitr; · iapply (reached_at m K (c, .inr (.inl j))); iexact HR
    isplitl [Ht2]; · iexact Ht2
    iapply (reached_at m K (fwd j c, .inr (.inr j))); iexact HR
  iexact Hk

theorem send_loop (k : P F) (Q : PUnit → sProp 𝕄) (W : Waits sig Unit) : ∀ js : List (Fin 7),
    iprop(records m K ∗ owes (c : Thread nD τ) (oRecv c js) W
        ∗ sepL js (fun j => iprop(∃ f, slotPts (fwd j c) c fullShare f)) ∗ sepL js (fun j => slotPts c c (shr j) (gath m))
        ∗ sepL js (fun j => dutyTok ER (sendCell c j) 0 0) ∗ sepL js (fun j => dutyTok ER (recvCell (fwd j c) j) 0 0))
      ⊢ iprop(((sepL js (fun j => cred (tallyAt (sendCell c j) () N)) ∗ owes (c : Thread nD τ) 0 W) -∗ run c k Q) -∗ run c (progSend c k js) Q)
  | [] => by
    unfold progSend oRecv sepL
    iintro ⟨-, HO, -, -, -, -⟩ Hk
    iapply Hk; isplitr; · iempintro
    iexact HO
  | j :: js => by
    unfold progSend oRecv
    simp only [sepL]
    iintro ⟨#HR, HO, ⟨Hd, Hds⟩, ⟨Hs, Hss⟩, ⟨Ht, Hts⟩, ⟨Hu, Hus⟩⟩ Hk
    iapply (send_step m K c j _ (devC_eq c j) (progSend c k js) Q W (oRecv c js)) $$ [HO Hd Hs Ht Hu]
    · isplitr; · iexact HR
      isplitl [HO]; · iexact HO
      isplitl [Hd]; · iexact Hd
      isplitl [Hs]; · iexact Hs
      isplitl [Ht]; · iexact Ht
      iexact Hu
    iintro ⟨Hc, HO⟩
    iapply (send_loop k Q W js) $$ [HO Hds Hss Hts Hus]
    · isplitr; · iexact HR
      isplitl [HO]; · iexact HO
      isplitl [Hds]; · iexact Hds
      isplitl [Hss]; · iexact Hss
      isplitl [Hts]; · iexact Hts
      iexact Hus
    iintro ⟨Hcs, HO⟩
    iapply Hk
    isplitr [HO]
    · isplitl [Hc]; · iexact Hc
      iexact Hcs
    iexact HO

theorem recv_loop (q0 q1 : FVec F S128x256 .bf16) (k : St F → P F) (Q : PUnit → sProp 𝕄) : ∀ (js : List (Fin 7)) (s : St F),
    iprop(records m K ∗ (∃ W, owes (c : Thread nD τ) 0 W)
        ∗ sepL js (fun j => cred (tallyAt (recvCell c j) () N)) ∗ sepL js (fun j => atPos ER (recvCell c j) 0 ∅ 0))
      ⊢ iprop((((∃ W, owes (c : Thread nD τ) 0 W) ∗ sepL js (fun j => atPos ER (recvCell c j) 1 ∅ 0) ∗ sepL js (fun j => slotPts c (bwd j c) fullShare (gath m)))
            -∗ run c (k (foldS m c q0 q1 js s)) Q)
          -∗ run c (progRecv c q0 q1 k js s) Q)
  | [], s => by
    unfold progRecv foldS
    simp only [sepL, List.foldl]
    iintro ⟨-, HO, -, -⟩ Hk
    iapply Hk; isplitl [HO]; · iexact HO
    isplitr <;> iempintro
  | j :: js, s => by
    unfold progRecv
    simp only [sepL]
    iintro ⟨#HR, ⟨%W, HO⟩, ⟨Hc, Hcs⟩, ⟨Ha, Has⟩⟩ Hk
    iapply (Rounds.wp_wait_rest_token 𝒱₀ ER (ringRd m) (c : Thread nD τ) none (κ := K (c, .inr (.inr j)))
      (wpE_waitDma2_eq 𝒱₀ (c : Thread nD τ) none Set.univ) (Set.mem_univ _) () (O := 0)
      (W := W) (R := 0) (m := 0) (T := ∅)
      (by rw [Nat.zero_add, expect_recv]; rfl)) $$ [Hc HO Ha]
    · isplitr; · iapply (inv_at m K (c, .inr (.inr j))); iexact HR
      isplitl [Hc]; · iexact Hc
      isplitl [HO]; · iexact HO
      isplitr; · rw [MayWait_zero]; iempintro
      iexact Ha
    iintro ⟨HO, Ha, -, Hpay⟩
    ihave Hs := (Entails.of_eq (rest_recv m c j)) $$ Hpay
    unfold recvPay slotPts
    iapply (wp_load 𝒱₀ (c : Thread nD τ) none Set.univ (m := scr) (S := slotSet (bwd j c))
      (set_sub_slot _ _ _ _ (by rw [k0_off9_eq c j]; rfl) rfl)) $$ Hs; iintro Hs
    rw [read_in0]
    iapply (wp_load 𝒱₀ (c : Thread nD τ) none Set.univ (m := scr) (S := slotSet (bwd j c))
      (set_sub_slot _ _ _ _ (by rw [k0_off10_eq c j]; rfl) rfl)) $$ Hs; iintro Hs
    rw [read_in1]
    iapply (recv_loop q0 q1 k Q js (consume q0 q1 (kvAt m (bwd j c) 0) (kvAt m (bwd j c) 1) s)) $$ [HO Hcs Has]
    · isplitr; · iexact HR
      isplitl [HO]; · iexists _; iexact HO
      isplitl [Hcs]; · iexact Hcs
      iexact Has
    iintro ⟨HO, Has, Hss⟩
    unfold slotPts
    iapply Hk
    isplitl [HO]; · iexact HO
    isplitl [Ha Has]
    · isplitl [Ha]; · iexact Ha
      iexact Has
    isplitl [Hs]; · iexact Hs
    iexact Hss

theorem done_loop (Q : PUnit → sProp 𝕄) : ∀ (js : List (Fin 7)),
    iprop(records m K ∗ (∃ W, owes (c : Thread nD τ) 0 W)
        ∗ sepL js (fun j => cred (tallyAt (sendCell c j) () N)) ∗ sepL js (fun j => atPos ER (sendCell c j) 0 ∅ 0))
      ⊢ iprop((((∃ W, owes (c : Thread nD τ) 0 W) ∗ sepL js (fun j => atPos ER (sendCell c j) 1 ∅ 0) ∗ sepL js (fun j => slotPts c c (shr j) (gath m)))
            -∗ run c (.ret ⟨⟩) Q)
          -∗ run c (progDone c js) Q)
  | [] => by
    unfold progDone
    simp only [sepL]
    iintro ⟨-, HO, -, -⟩ Hk
    iapply Hk; isplitl [HO]; · iexact HO
    isplitr <;> iempintro
  | j :: js => by
    unfold progDone
    simp only [sepL]
    iintro ⟨#HR, ⟨%W, HO⟩, ⟨Hc, Hcs⟩, ⟨Ha, Has⟩⟩ Hk
    iapply (Rounds.wp_wait_rest_token 𝒱₀ ER (ringRd m) (c : Thread nD τ) none (κ := K (c, .inr (.inl j)))
      (wpE_waitDma2_eq 𝒱₀ (c : Thread nD τ) none Set.univ) (Set.mem_univ _) () (O := 0)
      (W := W) (R := 0) (m := 0) (T := ∅)
      (by rw [Nat.zero_add, expect_send]; rfl)) $$ [Hc HO Ha]
    · isplitr; · iapply (inv_at m K (c, .inr (.inl j))); iexact HR
      isplitl [Hc]; · iexact Hc
      isplitl [HO]; · iexact HO
      isplitr; · rw [MayWait_zero]; iempintro
      iexact Ha
    iintro ⟨HO, Ha, -, Hpay⟩
    ihave Hs := (Entails.of_eq (rest_send m c j)) $$ Hpay
    unfold sendPay
    iapply (done_loop Q js) $$ [HO Hcs Has]
    · isplitr; · iexact HR
      isplitl [HO]; · iexists _; iexact HO
      isplitl [Hcs]; · iexact Hcs
      iexact Has
    iintro ⟨HO, Has, Hss⟩
    iapply Hk
    isplitl [HO]; · iexact HO
    isplitl [Ha Has]
    · isplitl [Ha]; · iexact Ha
      iexact Has
    isplitl [Hs]; · iexact Hs
    iexact Hss

/-- A device's own cells close: their counters at zero are the core's again. -/
theorem close_loop (κ : Fin 7 → CK) : ∀ js : List (Fin 7),
    iprop(records m K ∗ sepL js (fun j => atPos ER (kcell (c, κ j)) 1 ∅ 0)) ⊢ iprop(|={Set.univ}=> sepL js fun j => (semVal (kcell (c, κ j)) 0 : sProp 𝕄))
  | [] => by
    simp only [sepL]
    iintro -; imodintro; iempintro
  | j :: js => by
    simp only [sepL]
    iintro ⟨#HR, Ha, Has⟩
    imod (Rounds.cell_close ER (ringRd m) (Set.mem_univ (K (c, κ j))) (fun h => h) (R := 0 + 1) (duties_later m (kcell (c, κ j)))) $$ [Ha] with Hz
    · isplitr; · iapply (inv_at m K (c, κ j)); iexact HR
      iexact Ha
    imod (close_loop κ js) $$ [Has] with Hzs
    · isplitr; · iexact HR
      iexact Has
    imodintro
    isplitl [Hz]; · iexact Hz
    iexact Hzs

end Cert.KernelIdeal.Proto

end
-- ==== Proof.Body.lean ====
/- One device's kernel, run from what the launch hands it to what it hands back. -/
module

public import proofs.«01_k».proof.Proof.Loops

@[expose] public section

noncomputable section

namespace Cert.KernelIdeal.Proto

open Cert.KernelIdeal Cert.KernelIdeal.Gen Cert.KernelIdeal.Alg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the launch hands a device -/

/-- The records, its own fifteen positions, and the duty tokens it pays with. -/
def linear (c : Dev nD) : sProp 𝕄 :=
  iprop((atPos ER (barCell c) 0 ∅ 0 ∗ sepL all7 (fun j => atPos ER (sendCell c j) 0 ∅ 0) ∗ sepL all7 (fun j => atPos ER (recvCell c j) 0 ∅ 0))
    ∗ sepL all7 (fun j => dutyTok ER (barCell (fwd j c)) 0 (Fin.rev j)) ∗ sepL all7 (fun j => dutyTok ER (sendCell c j) 0 0)
    ∗ sepL all7 (fun j => dutyTok ER (recvCell (fwd j c) j) 0 0))
def ghost (K : Dev nD × CK → ℕ) (c : Dev nD) : sProp 𝕄 := iprop(records m K ∗ linear c)

/-- The credit it collects, and the levels. -/
def purse (c : Dev nD) : sProp 𝕄 :=
  iprop(cred (tallyAt (barCell c) () 7) ∗ sepL all7 (fun j => cred (tallyAt (recvCell c j) () N)) ∗ levAts L lv)

def start (c : Dev nD) : sProp 𝕄 := iprop((∃ K, ghost m K c) ∗ purse c)

/-- The gather buffer, whole. -/
def scrPts (c : Dev nD) (f : (cc0_scratch0 : Ref sig .tc).ty.Contents (Elt F)) : sProp 𝕄 := ((c : Thread nD τ).loc cc0_scratch0) ↦{fullShare} f

def Φ₀ (c : Dev nD) : sProp 𝕄 := iprop(start m c ∗ ∃ f, scrPts c f)
/-- After: the buffer holds all eight blocks, and the device's fifteen cells are closed at zero. -/
def Φ₁ (c : Dev nD) : sProp 𝕄 :=
  iprop(scrPts c (gath m) ∗ semVal (barCell c) 0 ∗ sepL all7 (fun j => semVal (sendCell c j) 0) ∗ sepL all7 (fun j => semVal (recvCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wqin m c
    | ⟨2, _⟩ => wkin m c
    | ⟨3, _⟩ => wvin m c
    | ⟨4, _⟩ => woin m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

variable (K : Dev nD × CK → ℕ) (c : Dev nD)

abbrev held (b : Ref sig .tc) (X : b.ty.Contents (Elt F)) : sProp 𝕄 := ((c : Thread nD τ).loc b) ↦{fullShare} X

/-- The four stores. -/
theorem store_run (k : P F) (Q : PUnit → sProp 𝕄) (f : (cc0_scratch0 : Ref sig .tc).ty.Contents (Elt F)) (w1 w2 w3 w4 : FVec F S1x1x128x256 .bf16) :
    (slotPts c c fullShare f : sProp 𝕄) ⊢ iprop((slotPts c c fullShare (stored c f w1 w2 w3 w4) -∗ run c k Q) -∗ run c (progStore c k w1 w2 w3 w4) Q) := by
  unfold progStore slotPts
  iintro Hs Hk
  iapply (wp_load 𝒱₀ (c : Thread nD τ) none Set.univ (m := scr) (S := slotSet c)
    (set_sub_slot _ _ _ _ (by rw [k0_off1_eq c]; rfl) rfl)) $$ Hs; iintro Hs
  iapply (wp_store 𝒱₀ (c : Thread nD τ) none Set.univ (m := scr) (r := rSt1 c) (Mk := Finset.univ) (S := slotSet c)
    (acc_sub_slot _ _ _ _ (by rw [k0_off1_eq c]; rfl) rfl)) $$ Hs; iintro Hs
  iapply (wp_load 𝒱₀ (c : Thread nD τ) none Set.univ (m := scr) (S := slotSet c)
    (set_sub_slot _ _ _ _ (by rw [k0_off2_eq c]; rfl) rfl)) $$ Hs; iintro Hs
  iapply (wp_store 𝒱₀ (c : Thread nD τ) none Set.univ (m := scr) (r := rSt2 c) (Mk := Finset.univ) (S := slotSet c)
    (acc_sub_slot _ _ _ _ (by rw [k0_off2_eq c]; rfl) rfl)) $$ Hs; iintro Hs
  iapply (wp_load 𝒱₀ (c : Thread nD τ) none Set.univ (m := scr) (S := slotSet c)
    (set_sub_slot _ _ _ _ (by rw [k0_off3_eq c]; rfl) rfl)) $$ Hs; iintro Hs
  iapply (wp_store 𝒱₀ (c : Thread nD τ) none Set.univ (m := scr) (r := rSt3 c) (Mk := Finset.univ) (S := slotSet c)
    (acc_sub_slot _ _ _ _ (by rw [k0_off3_eq c]; rfl) rfl)) $$ Hs; iintro Hs
  iapply (wp_load 𝒱₀ (c : Thread nD τ) none Set.univ (m := scr) (S := slotSet c)
    (set_sub_slot _ _ _ _ (by rw [k0_off4_eq c]; rfl) rfl)) $$ Hs; iintro Hs
  iapply (wp_store 𝒱₀ (c : Thread nD τ) none Set.univ (m := scr) (r := rSt4 c) (Mk := Finset.univ) (S := slotSet c)
    (acc_sub_slot _ _ _ _ (by rw [k0_off4_eq c]; rfl) rfl)) $$ Hs; iintro Hs
  iapply Hk
  unfold stored
  iexact Hs

/-- The two stores of the result. -/
theorem out_run (k : P F) (Q : PUnit → sProp 𝕄) (f : (cc0_stg5_0 : Ref sig .tc).ty.Contents (Elt F)) :
    iprop(held c cc0_stg4_0 (woin m c) ∗ held c cc0_stg5_0 f)
      ⊢ iprop(((held c cc0_stg4_0 (woin m c) ∗ held c cc0_stg5_0 (outAt m c)) -∗ run c k Q)
          -∗ run c (progOut (Memref.whole cc0_stg4_0) (Memref.whole cc0_stg5_0) (stAt m c) k) Q) := by
  unfold progOut
  iintro ⟨Hw, Ho⟩ Hk
  iapply (wp_load 𝒱₀ (c : Thread nD τ) none Set.univ (m := (Memref.whole cc0_stg4_0 : Memref sig .tc .vmem S256x512 .f32)) (Finset.subset_univ _)) $$ Hw; iintro Hw
  rw [read_wo]
  iapply (wp_load 𝒱₀ (c : Thread nD τ) none Set.univ (m := (Memref.whole cc0_stg5_0 : Memref sig .tc .vmem S2x128x512 .f32)) (Finset.subset_univ _)) $$ Ho; iintro Ho
  iapply (wp_store 𝒱₀ (c : Thread nD τ) none Set.univ (m := (Memref.whole cc0_stg5_0 : Memref sig .tc .vmem S2x128x512 .f32)) (r := rX0) (Mk := Finset.univ) (Finset.subset_univ _)) $$ Ho; iintro Ho
  iapply (wp_load 𝒱₀ (c : Thread nD τ) none Set.univ (m := (Memref.whole cc0_stg5_0 : Memref sig .tc .vmem S2x128x512 .f32)) (Finset.subset_univ _)) $$ Ho; iintro Ho
  iapply (wp_store 𝒱₀ (c : Thread nD τ) none Set.univ (m := (Memref.whole cc0_stg5_0 : Memref sig .tc .vmem S2x128x512 .f32)) (r := rX1) (Mk := Finset.univ) (Finset.subset_univ _)) $$ Ho; iintro Ho
  rw [write_out]
  iapply Hk
  isplitl [Hw]; · iexact Hw
  iexact Ho

def bodyPre : sProp 𝕄 :=
  iprop((ghost m K c ∗ purse c ∗ ∃ f, scrPts c f)
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost : sProp 𝕄 :=
  iprop(Φ₁ m c ∗ (dats m ρ 0 c).owesAt () t0_0.succ ∗ stg c cc0_stg0_0 (xin m c) ∗ stg c cc0_stg1_0 (wqin m c) ∗ stg c cc0_stg2_0 (wkin m c)
    ∗ stg c cc0_stg3_0 (wvin m c) ∗ stg c cc0_stg4_0 (woin m c) ∗ stg c cc0_stg5_0 (outAt m c))

/-- The end of the body: every slot back, every cell closed. -/
theorem finish (fo : (cc0_stg5_0 : Ref sig .tc).ty.Contents (Elt F)) (hfo : fo = outAt m c) :
    iprop(records m K ∗ (∃ W, owes (c : Thread nD τ) 0 W) ∗ atPos ER (barCell c) 1 ∅ 0
        ∗ sepL all7 (fun j => atPos ER (sendCell c j) 1 ∅ 0) ∗ sepL all7 (fun j => atPos ER (recvCell c j) 1 ∅ 0)
        ∗ slotPts c c shrK (gath m) ∗ sepL all7 (fun j => slotPts c c (shr j) (gath m)) ∗ sepL all7 (fun j => slotPts c (bwd j c) fullShare (gath m))
        ∗ held c cc0_stg0_0 (xin m c) ∗ held c cc0_stg1_0 (wqin m c) ∗ held c cc0_stg2_0 (wkin m c) ∗ held c cc0_stg3_0 (wvin m c)
        ∗ held c cc0_stg4_0 (woin m c) ∗ held c cc0_stg5_0 fo)
      ⊢ iprop(|={Set.univ}=> bodyPost m ρ c) := by
  subst hfo
  iintro ⟨#HR, ⟨%W, HO⟩, HaB, HaS, HaV, Hk, Hss, Hvs, H0, H1, H2, H3, H4, H5⟩
  imod (Rounds.cell_close ER (ringRd m) (Set.mem_univ (K (c, .inl ()))) (fun h => h) (R := 0 + 1) (duties_later m (barCell c))) $$ [HaB] with HzB
  · isplitr; · iapply (inv_at m K (c, .inl ())); iexact HR
    iexact HaB
  imod (close_loop m K c (fun j => .inr (.inl j)) all7) $$ [HaS] with HzS
  · isplitr; · iexact HR
    iexact HaS
  imod (close_loop m K c (fun j => .inr (.inr j)) all7) $$ [HaV] with HzV
  · isplitr; · iexact HR
    iexact HaV
  imodintro
  ihave Hown := (Entails.of_eq (slotPts_shares c c (gath m)).symm) $$ [Hk Hss]
  · isplitl [Hk]; · iexact Hk
    iexact Hss
  ihave Hall := (Entails.of_eq (slots_split c (gath m) (fun j => bwd j c) (bwd_inj c) (bwd_ne c)).symm) $$ [Hown Hvs]
  · isplitl [Hown]; · iexact Hown
    iexact Hvs
  unfold bodyPost Φ₁ scrPts Dat.owesAt Pipeline.owesWithin
  rw [show (dats m ρ 0 c).owed t0_0.succ = 0 from rfl]
  isplitl [Hall HzB HzS HzV]
  · isplitl [Hall]; · iexact Hall
    isplitl [HzB]; · iexact HzB
    isplitl [HzS]; · iexact HzS
    iexact HzV
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem sound_body (Kt : PUnit → sProp 𝕄) :
    iprop(bodyPre m ρ K c ∗ (bodyPost m ρ c -∗ Kt ⟨⟩))
      ⊢ run c (Alg.body (Memref.whole cc0_stg0_0) (Memref.whole cc0_stg1_0) (Memref.whole cc0_stg2_0) (Memref.whole cc0_stg3_0)
          (Memref.whole cc0_stg4_0) (Memref.whole cc0_stg5_0)) Kt := by
  unfold Alg.body
  simp only [run, wp_deviceId]
  unfold bodyPre ghost linear purse
  iintro ⟨⟨⟨⟨#HR, ⟨HaB, HaS, HaV⟩, HtB, HtS, HtV⟩, ⟨HcB, HcV, #Hlev⟩, ⟨%f0, Hscr⟩⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have e0 : g0 = xin m c := by rw [hg0]; unfold Dat.before; rw [if_pos (fetch0_0 t0_0)]; rfl
  have e1 : g1 = wqin m c := by rw [hg1]; unfold Dat.before; rw [if_pos (fetch0_1 t0_0)]; rfl
  have e2 : g2 = wkin m c := by rw [hg2]; unfold Dat.before; rw [if_pos (fetch0_2 t0_0)]; rfl
  have e3 : g3 = wvin m c := by rw [hg3]; unfold Dat.before; rw [if_pos (fetch0_3 t0_0)]; rfl
  have e4 : g4 = woin m c := by rw [hg4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = oBar c all7 from rfl]
  unfold scrPts
  ihave Hsl := (Entails.of_eq (slots_split c f0 (fun j => fwd j c) (fwd_inj c) (fwd_ne c))) $$ Hscr
  icases Hsl with ⟨Hown, Hoth⟩
  -- the seven signals
  iapply (sig_loop m K c _ Kt W all7) $$ [HO HtB Hoth]
  · isplitr; · iexact HR
    isplitl [HO]; · iexact HO
    isplitl [HtB]; · iexact HtB
    simp only [sepL]
    icases Hoth with ⟨G0, G1, G2, G3, G4, G5, G6, G7⟩
    isplitl [G0]; · iexists f0; iexact G0
    isplitl [G1]; · iexists f0; iexact G1
    isplitl [G2]; · iexists f0; iexact G2
    isplitl [G3]; · iexists f0; iexact G3
    isplitl [G4]; · iexists f0; iexact G4
    isplitl [G5]; · iexists f0; iexact G5
    isplitl [G6]; · iexists f0; iexact G6
    iexact G7
  iintro HO
  -- the barrier
  iapply (Rounds.wp_wait_rest_token 𝒱₀ ER (ringRd m) (c : Thread nD τ) none (κ := K (c, .inl ()))
      (wpE_semWait_eq 𝒱₀ (c : Thread nD τ) none Set.univ) (Set.mem_univ _) () (O := oRecv c all7) (W := W) (R := 0) (m := 0) (T := ∅)
      (by rw [expect_bar]; decide)) $$ [HcB HO HaB]
  · isplitr; · iapply (inv_at m K (c, .inl ())); iexact HR
    isplitl [HcB]; · iexact HcB
    isplitl [HO]; · iexact HO
    isplitr; · iapply (mayWait_bar c); iexact Hlev
    iexact HaB
  iintro ⟨HO, HaB, -, Hpay⟩
  ihave Hdst := (Entails.of_eq (rest_bar m c)) $$ Hpay
  unfold barPay
  -- the operands
  iapply (wp_load 𝒱₀ (c : Thread nD τ) none Set.univ (m := (Memref.whole cc0_stg2_0 : Memref sig .tc .vmem S512x256 .f32)) (Finset.subset_univ _)) $$ H2; iintro H2
  rw [read_wk]
  iapply (wp_load 𝒱₀ (c : Thread nD τ) none Set.univ (m := (Memref.whole cc0_stg3_0 : Memref sig .tc .vmem S512x256 .f32)) (Finset.subset_univ _)) $$ H3; iintro H3
  rw [read_wv]
  iapply (wp_load 𝒱₀ (c : Thread nD τ) none Set.univ (m := (Memref.whole cc0_stg0_0 : Memref sig .tc .vmem S2x128x512 .f32)) (Finset.subset_univ _)) $$ H0; iintro H0
  rw [read_x0]
  iapply (wp_load 𝒱₀ (c : Thread nD τ) none Set.univ (m := (Memref.whole cc0_stg0_0 : Memref sig .tc .vmem S2x128x512 .f32)) (Finset.subset_univ _)) $$ H0; iintro H0
  rw [read_x1]
  -- the own block
  iapply (store_run c _ Kt f0 _ _ _ _) $$ Hown
  iintro Hown
  ihave Hg := (show (slotPts c c fullShare (stored c f0 (kBlk c (wkin m c) (xrow m c 0)) (vBlk (wvin m c) (xrow m c 0)) (kBlk c (wkin m c) (xrow m c 1)) (vBlk (wvin m c) (xrow m c 1))) : sProp 𝕄)
      ⊢ slotPts c c fullShare (gath m) from Entails.of_eq (pointsTo_congr fun i hi => stored_eq m c f0 i hi)) $$ Hown
  ihave Hsh := (Entails.of_eq (slotPts_shares c c (gath m))) $$ Hg
  icases Hsh with ⟨Hkeep, Hlend⟩
  -- the seven copies
  iapply (send_loop m K c _ Kt _ all7) $$ [HO Hdst Hlend HtS HtV]
  · isplitr; · iexact HR
    isplitl [HO]; · iexact HO
    isplitl [Hdst]; · iexact Hdst
    isplitl [Hlend]; · iexact Hlend
    isplitl [HtS]; · iexact HtS
    iexact HtV
  iintro ⟨HcS, HO⟩
  -- the own block's scores
  unfold progMain
  iapply (wp_load 𝒱₀ (c : Thread nD τ) none Set.univ (m := (Memref.whole cc0_stg1_0 : Memref sig .tc .vmem S512x256 .f32)) (Finset.subset_univ _)) $$ H1; iintro H1
  rw [read_wq]
  unfold slotPts
  iapply (wp_load 𝒱₀ (c : Thread nD τ) none Set.univ (m := scr) (S := slotSet c)
      (set_sub_slot _ _ _ _ (by rw [k0_off6_eq c]; rfl) rfl)) $$ Hkeep; iintro Hkeep
  rw [read_own0]
  iapply (wp_load 𝒱₀ (c : Thread nD τ) none Set.univ (m := scr) (S := slotSet c)
      (set_sub_slot _ _ _ _ (by rw [k0_off7_eq c]; rfl) rfl)) $$ Hkeep; iintro Hkeep
  rw [read_own1]
  -- the seven blocks received
  iapply (recv_loop m K c _ _ _ Kt all7 _) $$ [HO HcV HaV]
  · isplitr; · iexact HR
    isplitl [HO]; · iexists _; iexact HO
    isplitl [HcV]; · iexact HcV
    iexact HaV
  iintro ⟨HO, HaV, Hvs⟩
  -- the result
  iapply (out_run m c _ Kt g5) $$ [H4 H5]
  · isplitl [H4]; · iexact H4
    iexact H5
  iintro ⟨H4, H5⟩
  -- the copies sent are through
  iapply (done_loop m K c Kt all7) $$ [HO HcS HaS]
  · isplitr; · iexact HR
    isplitl [HO]; · iexact HO
    isplitl [HcS]; · iexact HcS
    iexact HaS
  iintro ⟨HO, HaS, Hss⟩
  simp only [run, wp_ret]
  imod (finish m ρ K c _ rfl) $$ [HO HaB HaS HaV Hkeep Hss Hvs H0 H1 H2 H3 H4 H5] with Hpost
  · isplitr; · iexact HR
    isplitl [HO]; · iexact HO
    isplitl [HaB]; · iexact HaB
    isplitl [HaS]; · iexact HaS
    isplitl [HaV]; · iexact HaV
    isplitl [Hkeep]; · unfold slotPts; iexact Hkeep
    isplitl [Hss]; · iexact Hss
    isplitl [Hvs]; · iexact Hvs
    isplitl [H0]; · iexact H0
    isplitl [H1]; · iexact H1
    isplitl [H2]; · iexact H2
    isplitl [H3]; · iexact H3
    isplitl [H4]; · iexact H4
    iexact H5
  imodintro
  iapply Hk
  iexact Hpost

end Cert.KernelIdeal.Proto

end
-- ==== Proof.Run.lean ====
/- The launch: the ghost state dealt out, the body discharged on every device, and the whole program's run. -/
module

public import proofs.«01_k».proof.Proof.Body
public import Idealize.ShloMosaic.Lib.Pipeline.CollectiveSegs

@[expose] public section

noncomputable section

namespace Cert.KernelIdeal.Proto

open Cert.KernelIdeal Cert.KernelIdeal.Gen Cert.KernelIdeal.Alg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

def bodyPre' (c : Dev nD) : sProp 𝕄 :=
  iprop(Φ₀ m c
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      scr hscr cc0_scratch1 cc0_scratch2) (fun _ => bodyPost m ρ c)
  rw [body_eq]
  unfold bodyPre' Φ₀ start
  iintro ⟨⟨⟨⟨%K, Hg⟩, Hp⟩, Hscr⟩, Hrest⟩
  iapply (sound_body m ρ K c fun _ => bodyPost m ρ c)
  unfold bodyPre
  isplitr []
  · isplitl [Hg Hp Hscr]
    · isplitl [Hg]; · iexact Hg
      isplitl [Hp]; · iexact Hp
      iexact Hscr
    iexact Hrest
  · iintro H; iexact H

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_inj h2]
def ringCells : Finset (GSem nD τ sig) := Finset.univ.map ⟨kcell, kcell_injective⟩

/-- A device's own cells' duty tokens as minted: seven of its barrier, one of each copy cell. -/
abbrev tokOf (cj : Dev nD × (Fin 7 ⊕ (Fin 7 ⊕ Fin 7))) : GSem nD τ sig × ℕ × Fin 7 := match cj.2 with
  | .inl i => (barCell cj.1, 0, i)
  | .inr k => (((cj.1 : Thread nD τ), osem k), 0, 0)
theorem tokOf_injective : Function.Injective tokOf := by
  rintro ⟨c, j⟩ ⟨c', j'⟩ h
  have h1 : c = c' := by
    have := congrArg (fun x : GSem nD τ sig × ℕ × Fin 7 => x.1.1.1) h
    cases j <;> cases j' <;> exact this
  subst h1
  have h2 := congrArg (fun x : GSem nD τ sig × ℕ × Fin 7 => (x.1.2, x.2.2)) h
  cases j with
  | inl i =>
    cases j' with
    | inl i' => exact congrArg (fun i => (c, Sum.inl i)) (congrArg Prod.snd h2)
    | inr k' => exact absurd (congrArg Prod.fst h2).symm (osem_ne_bar k')
  | inr k =>
    cases j' with
    | inl i' => exact absurd (congrArg Prod.fst h2) (osem_ne_bar k)
    | inr k' => exact congrArg (fun k => (c, Sum.inr k)) (osem_inj (congrArg Prod.fst h2))
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 7 => dutyTok ER (barCell c) 0 i) ∗ (bigSep Finset.univ fun j : Fin 7 => dutyTok ER (sendCell c j) 0 0)
    ∗ bigSep Finset.univ fun j : Fin 7 => dutyTok ER (recvCell c j) 0 0)

def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg bar] (by decide) (by decide)]; rfl

/-- A conjunction over all fifteen cells, by kind. -/
theorem bigSep_CK (Φ : CK → sProp 𝕄) : bigSep Finset.univ Φ
    = iprop(Φ (.inl ()) ∗ (bigSep Finset.univ fun j : Fin 7 => Φ (.inr (.inl j))) ∗ bigSep Finset.univ fun j : Fin 7 => Φ (.inr (.inr j))) := by
  rw [bigSep_univ_sum, bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens `c` pays with, and its positions, as the launch regroups them. -/
def payToks (c : Dev nD) : sProp 𝕄 :=
  iprop((bigSep Finset.univ fun j : Fin 7 => dutyTok ER (barCell (fwd j c)) 0 (Fin.rev j)) ∗ (bigSep Finset.univ fun j : Fin 7 => dutyTok ER (sendCell c j) 0 0)
    ∗ bigSep Finset.univ fun j : Fin 7 => dutyTok ER (recvCell (fwd j c) j) 0 0)

theorem linear_eq (c : Dev nD) : (linear c : sProp 𝕄) = iprop((bigSep Finset.univ fun k : CK => atPos ER (kcell (c, k)) 0 ∅ 0) ∗ payToks c) := by
  unfold linear payToks
  rw [bigSep_CK]
  simp only [bigSep_all7]

/-- Who pays which barrier duty; who pays which receive duty. -/
def barEquiv : Dev nD × Fin 7 ≃ Dev nD × Fin 7 where
  toFun p := (fwd p.2 p.1, Fin.rev p.2)
  invFun p := (fwd p.2 p.1, Fin.rev p.2)
  left_inv := by decide
  right_inv := by decide
def recvEquiv : Dev nD × Fin 7 ≃ Dev nD × Fin 7 where
  toFun p := (fwd p.2 p.1, p.2)
  invFun p := (bwd p.2 p.1, p.2)
  left_inv := by decide
  right_inv := by decide

theorem toks_around : (bigSep Finset.univ fun c : Dev nD => (toks c : sProp 𝕄)) ⊢ bigSep Finset.univ fun c : Dev nD => payToks c := by
  have hB : (bigSep Finset.univ fun c : Dev nD => bigSep Finset.univ fun i : Fin 7 => (dutyTok ER (barCell c) 0 i : sProp 𝕄))
      = bigSep Finset.univ fun c : Dev nD => bigSep Finset.univ fun i : Fin 7 => dutyTok ER (barCell (fwd i c)) 0 (Fin.rev i) := by
    rw [← bigSep_univ_prod (fun p : Dev nD × Fin 7 => (dutyTok ER (barCell p.1) 0 p.2 : sProp 𝕄)),
      ← bigSep_univ_prod (fun p : Dev nD × Fin 7 => (dutyTok ER (barCell (fwd p.2 p.1)) 0 (Fin.rev p.2) : sProp 𝕄)),
      bigSep_univ_equiv barEquiv (fun p : Dev nD × Fin 7 => (dutyTok ER (barCell p.1) 0 p.2 : sProp 𝕄))]
    rfl
  have hV : (bigSep Finset.univ fun c : Dev nD => bigSep Finset.univ fun i : Fin 7 => (dutyTok ER (recvCell c i) 0 0 : sProp 𝕄))
      = bigSep Finset.univ fun c : Dev nD => bigSep Finset.univ fun i : Fin 7 => dutyTok ER (recvCell (fwd i c) i) 0 0 := by
    rw [← bigSep_univ_prod (fun p : Dev nD × Fin 7 => (dutyTok ER (recvCell p.1 p.2) 0 0 : sProp 𝕄)),
      ← bigSep_univ_prod (fun p : Dev nD × Fin 7 => (dutyTok ER (recvCell (fwd p.2 p.1) p.2) 0 0 : sProp 𝕄)),
      bigSep_univ_equiv recvEquiv (fun p : Dev nD × Fin 7 => (dutyTok ER (recvCell p.1 p.2) 0 0 : sProp 𝕄))]
    rfl
  unfold toks payToks
  rw [bigSep_sep', bigSep_sep', bigSep_sep', bigSep_sep', hB, hV]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c => linear c)
    (fun c _ => show iprop(records m K ∗ linear c) ⊢ G' m c by unfold G' ghost; iintro H; iexists K; iexact H))
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (linear_eq c).symm))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {i j : Fin 7} : Iff (recvCell a i = recvCell b j) (a = b ∧ i = j) :=
  ⟨fun h => ⟨Fin.ext (congrArg (fun g : GSem nD τ sig => g.1.1.val) h), recv_inj (SemLoc.dma.inj (congrArg Prod.snd h))⟩, fun h => by rw [h.1, h.2]⟩
theorem recv_ne_bar (a b : Dev nD) (j : Fin 7) : recvCell a j ≠ barCell b := fun h => dma_ne_bar _ (congrArg Prod.snd h)

theorem oRecv_bar (d b : Dev nD) (l : List (Fin 7)) : oRecv d l (barCell b) () = 0 := by
  by_contra h
  obtain ⟨a, j, h'⟩ := oRecv_pos (Nat.pos_of_ne_zero h)
  exact recv_ne_bar _ _ _ h'.symm

theorem oRecv_recv (d b : Dev nD) (i : Fin 7) : ∀ l : List (Fin 7), oRecv d l (recvCell b i) () = (l.map fun j => if fwd j d = b ∧ j = i then 1 else 0).sum * N
  | [] => (Nat.zero_mul N).symm
  | j :: js => by
    unfold oRecv
    rw [Pi.add_apply, Finsupp.add_apply, oRecv_recv d b i js, tallyAt_apply, List.map_cons, List.sum_cons, Nat.add_mul, Nat.add_comm]
    congr 1
    by_cases h : fwd j d = b ∧ j = i
    · rw [if_pos h, if_pos ⟨(recv_eq_iff.mpr h).symm, rfl⟩, Nat.one_mul]
    · rw [if_neg h, if_neg fun h' => h (recv_eq_iff.mp h'.1.symm), Nat.zero_mul]

theorem oBar_bar (d b : Dev nD) : ∀ l : List (Fin 7), oBar d l (barCell b) () = (l.map fun j => if fwd j d = b then 1 else 0).sum
  | [] => oRecv_bar d b all7
  | j :: js => by
    unfold oBar
    rw [Pi.add_apply, Finsupp.add_apply, oBar_bar d b js, tallyAt_apply, List.map_cons, List.sum_cons, Nat.add_comm]
    congr 1
    by_cases h : fwd j d = b
    · rw [if_pos h, if_pos ⟨(bar_eq_iff.mpr h).symm, rfl⟩]
    · rw [if_neg h, if_neg fun h' => h (bar_eq_iff.mp h'.1.symm)]

theorem oBar_recv (d b : Dev nD) (i : Fin 7) : ∀ l : List (Fin 7), oBar d l (recvCell b i) () = oRecv d all7 (recvCell b i) ()
  | [] => rfl
  | j :: js => by
    unfold oBar
    rw [Pi.add_apply, Finsupp.add_apply, oBar_recv d b i js, tallyAt_ne_cell (fun h => recv_ne_bar _ _ _ h), Finsupp.zero_apply, Nat.add_zero]

theorem count_bar : ∀ b : Dev nD, (∑ d : Dev nD, (all7.map fun j => if fwd j d = b then 1 else 0).sum) = 7 := by decide
theorem count_recv : ∀ (b : Dev nD) (i : Fin 7), (∑ d : Dev nD, (all7.map fun j => if fwd j d = b ∧ j = i then 1 else 0).sum) = 1 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from oBar_bar d c all7, count_bar]

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => show O₀ d (recvCell c j) () = _ from (oBar_recv d c j all7).trans (oRecv_recv d c j all7),
    ← Finset.sum_mul, count_recv, Nat.one_mul]

/-- The cells whose credit a device collects. -/
abbrev paidSem : Unit ⊕ Fin 7 → SemLoc sig
  | .inl _ => .reg bar
  | .inr j => .dma (semAt cc0_scratch2 j)
theorem paidSem_inj : Function.Injective paidSem := by decide

theorem creds (c : Dev nD) :
    (Pipeline.launchCred O₀ c : sProp 𝕄) ⊢ iprop(cred (tallyAt (barCell c) () 7) ∗ sepL all7 fun j => cred (tallyAt (recvCell c j) () N)) := by
  unfold Pipeline.launchCred
  refine (bigSep_subset (Finset.subset_univ (Finset.univ.map ⟨paidSem, paidSem_inj⟩))).trans ?_
  rw [bigSep_map, bigSep_univ_sum, bigSep_univ_of_subsingleton (), bigSep_all7]
  show iprop(cred (tallyOn (barCell c) (launchCredit (Pipeline.owing O₀) 0 (barCell c)))
    ∗ sepL all7 fun j => cred (tallyOn (recvCell c j) (launchCredit (Pipeline.owing O₀) 0 (recvCell c j)))) ⊢ _
  simp only [launch_bar, launch_recv]
  exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start purse G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq, bigSep_all7, bigSep_all7]
  unfold Φ₁ scrPts
  iintro ⟨Hr, HzB, HzS, HzV⟩
  isplitl [HzB]; · iexact HzB
  isplitl [HzS HzV]
  · isplitl [HzS] <;> iassumption
  iexists (gath m); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the eight devices ends with each
    device's arrays as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays after the run hold what they held. -/
theorem finalA_0 (c : Dev nD) : finalA m ρ c (0 : Fin 6) = m ((c : Thread nD τ).loc main_arg0) := (dats (F := F) m ρ 0 c).arrAt_in (0 : Fin 6) rfl _
theorem finalA_1 (c : Dev nD) : finalA m ρ c (1 : Fin 6) = m ((c : Thread nD τ).loc main_arg1) := (dats (F := F) m ρ 0 c).arrAt_in (1 : Fin 6) rfl _
theorem finalA_2 (c : Dev nD) : finalA m ρ c (2 : Fin 6) = m ((c : Thread nD τ).loc main_arg2) := (dats (F := F) m ρ 0 c).arrAt_in (2 : Fin 6) rfl _
theorem finalA_3 (c : Dev nD) : finalA m ρ c (3 : Fin 6) = m ((c : Thread nD τ).loc main_arg3) := (dats (F := F) m ρ 0 c).arrAt_in (3 : Fin 6) rfl _
theorem finalA_4 (c : Dev nD) : finalA m ρ c (4 : Fin 6) = m ((c : Thread nD τ).loc main_arg4) := (dats (F := F) m ρ 0 c).arrAt_in (4 : Fin 6) rfl _

end Cert.KernelIdeal.Proto

end
-- ==== Proof.KFrame.lean ====
/- The printed kernel over words is the idealized kernel with the named constant read back as its literal, so
   its frame is the idealized kernel's at that reading. -/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.KFrame

open Idealize.ShloMosaic Idealize.SL.Sem

/-- The named constant read as the word printed for it. -/
local instance bitsNamed : Named Bits := ⟨fun _ _ φ b => FloatOps.ofBits φ b⟩

/-- The idealized kernel's frame over words, at that reading. -/
def idealFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem kernel_frame_eq : quiescent_Kernel = idealFrame := by
  chain_rfl

end Cert.KFrame

end
-- ==== Proof.Frames.lean ====
/- The kernel's two frames, and what its run leaves in the result array. -/
module

public import proofs.«01_k».proof.Proof.Run
public import proofs.«01_k».proof.Proof.KFrame
public import Idealize.ShloMosaic.Lib.Pipeline.ValueKit

@[expose] public section

noncomputable section

namespace Cert.KernelIdeal.Proto

open Cert.KernelIdeal Cert.KernelIdeal.Gen Cert.KernelIdeal.Alg

open Idealize.ShloMosaic
open Idealize.ShloMosaic.TcCoe
open Idealize.SL.Sem
open Idealize.ShloMosaic.ValueIdx

variable {F : FTy → Type} [FloatOps F] [Named F]

variable (m : (ℓ : Loc nD τ sig) → Buf (Elt F) ℓ) (ρ : Dev nD → PrngReg)

/-- What a window's one block holds is what the array holds. -/
theorem iblk_0 (c : Dev nD) (i : S2x128x512.Idx) : xin m c i = m ((c : Thread nD τ).loc main_arg0) i := by
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem iblk_1 (c : Dev nD) (i : S512x256.Idx) : wqin m c i = m ((c : Thread nD τ).loc main_arg1) i := by
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

theorem iblk_2 (c : Dev nD) (i : S512x256.Idx) : wkin m c i = m ((c : Thread nD τ).loc main_arg2) i := by
  refine congrArg (m ((c : Thread nD τ).loc main_arg2)) (funext fun a => Fin.ext ?_)
  match a with
  | ⟨0, _⟩ => show 0 + 1 * (i 0).val = (i 0).val; omega
  | ⟨1, _⟩ => show 0 + 1 * (i 1).val = (i 1).val; omega

theorem iblk_3 (c : Dev nD) (i : S512x256.Idx) : wvin m c i = m ((c : Thread nD τ).loc main_arg3) i := by
  refine congrArg (m ((c : Thread nD τ).loc main_arg3)) (funext fun a => Fin.ext ?_)
  match a with
  | ⟨0, _⟩ => show 0 + 1 * (i 0).val = (i 0).val; omega
  | ⟨1, _⟩ => show 0 + 1 * (i 1).val = (i 1).val; omega

theorem iblk_4 (c : Dev nD) (i : S256x512.Idx) : woin m c i = m ((c : Thread nD τ).loc main_arg4) i := by
  refine congrArg (m ((c : Thread nD τ).loc main_arg4)) (funext fun a => Fin.ext ?_)
  match a with
  | ⟨0, _⟩ => show 0 + 1 * (i 0).val = (i 0).val; omega
  | ⟨1, _⟩ => show 0 + 1 * (i 1).val = (i 1).val; omega

theorem finalA_out (c : Dev nD) : finalA m ρ c (5 : Fin 6) = outAt m c := by
  refine (dats (F := F) m ρ 0 c).arrAt_eq_of_covers (5 : Fin 6) (outAt m c) (by decide +kernel) fun t hf y => ?_
  blk_simp
  have hy : (win0_5.blk t).view.emb y = y := by
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [hy]
  rfl

/-- The kernel's run: the result array holds `outAt`, the arguments what they held, every counter zero. -/
theorem run_out : θ_run (defs (F := F)) (onTc main) ⟨m, fun _ => 0, ρ⟩ (fun r =>
    (∀ c : Dev nD, r.2.mem (c.tc.loc main_v1) = outAt m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0) :=
  (θ_run (defs (F := F)) _ _).mono (fun r h =>
    ⟨fun c => ⟨(h.1 c (5 : Fin 6)).trans (finalA_out m ρ c), (h.1 c (0 : Fin 6)).trans (finalA_0 m ρ c),
      (h.1 c (1 : Fin 6)).trans (finalA_1 m ρ c), (h.1 c (2 : Fin 6)).trans (finalA_2 m ρ c),
      (h.1 c (3 : Fin 6)).trans (finalA_3 m ρ c), (h.1 c (4 : Fin 6)).trans (finalA_4 m ρ c)⟩, h.2⟩)
    (run_main m ρ)

end Cert.KernelIdeal.Proto

namespace Cert.Proof

open Idealize.ShloMosaic Idealize.SL.Sem

theorem frame_pi : Cert.quiescent_KernelIdeal := fun m g _ =>
  (θ_run (Cert.KernelIdeal.defs (F := Ideal)) _ _).mono (fun r h => ⟨fun c => (h.1 c).2, h.2⟩)
    (Cert.KernelIdeal.Proto.run_out (F := Ideal) m g)

theorem frame_p : Cert.quiescent_Kernel := by
  rw [Cert.KFrame.kernel_frame_eq]
  letI := Cert.KFrame.bitsNamed
  exact fun m g _ => (θ_run (Cert.KernelIdeal.defs (F := Bits)) _ _).mono (fun r h => ⟨fun c => (h.1 c).2, h.2⟩)
    (Cert.KernelIdeal.Proto.run_out (F := Bits) m g)

end Cert.Proof

end
-- ==== Proof.RefRun.lean ====
/- The reference, stage by stage, and its run: after it the result buffer holds `refOut` of the arguments, which are unchanged. -/
module

public import proofs.«01_k».proof.Proof.Gen.ReferenceIdeal
public import Idealize.ShloMosaic.Lib.Claim
public import Idealize.ShloMosaic.Lib.Quiescent

@[expose] public section

noncomputable section

namespace Cert.ReferenceIdeal.Val

open Cert.ReferenceIdeal Cert.ReferenceIdeal.Gen

open Idealize.ShloMosaic
open Idealize.ShloMosaic.TcCoe
open Idealize.SL.Sem

variable {F : FTy → Type} [FloatOps F]

/-- The 32 angular frequencies, `1 / 10000 ^ (2 i / 64)`. -/
def freqs : FVec F S32 .f32 :=
  Host.divf (broadcastInDim S32 ![] bcast_S_S32 (constant S_ .f32 0x3F800000#32))
    (Host.powf (broadcastInDim S32 ![] bcast_S_S32 (constant S_ .f32 0x461C4000#32))
      (Host.divf
        (sitofp .f32 (addi (broadcastInDim S32 ![] bcast_S_S32 (constantI S_ 32 0#32))
          (muli (broadcastInDim S32 ![] bcast_S_S32 (constantI S_ 32 2#32)) (iotaInDim S32 32 0))))
        (broadcastInDim S32 ![] bcast_S_S32 (constant S_ .f32 0x42800000#32))))

/-- The angles: position times frequency. -/
def angles : FVec F S1024x32 .f32 :=
  mulf (broadcastInDim S1024x32 ![0, 1] bcast_S1024x1_S1024x32_0_1
      (sitofp .f32 (broadcastInDim S1024x1 ![0] bcast_S1024_S1024x1_0 (iotaInDim S1024 32 0))))
    (broadcastInDim S1024x32 ![0, 1] bcast_S1x32_S1024x32_0_1
      (broadcastInDim S1x32 ![1] bcast_S32_S1x32_1 freqs))

/-- Every column twice. -/
def twice (t : FVec F S1024x32 .f32) : FVec F S1024x64 .f32 :=
  shapeCast S1024x64 (broadcastInDim S1024x32x2 ![0, 1] bcast_S1024x32_S1024x32x2_0_1 t) shapeCasts_S1024x32x2_S1024x64

/-- A projection split into heads. -/
def proj (x : FVec F S2x1024x512 .f32) (w : FVec F S512x256 .f32) : FVec F S2x1024x4x64 .f32 :=
  shapeCast S2x1024x4x64 (Host.dotGeneral dot_S2x1024x512_S512x256_S2x1024x256_2_0_01_1_n_n none x w)
    shapeCasts_S2x1024x256_S2x1024x4x64

/-- One table row per position, over batches and heads. -/
def spread (t : FVec F S1024x64 .f32) : FVec F S2x1024x4x64 .f32 :=
  broadcastInDim S2x1024x4x64 ![0, 1, 2, 3] bcast_S1x1024x1x64_S2x1024x4x64_0_1_2_3
    (broadcastInDim S1x1024x1x64 ![1, 3] bcast_S1024x64_S1x1024x1x64_1_3 t)

/-- A column of the pairs, of parity 0 or 1. -/
def evens (p : FVec F S2x1024x4x64 .f32) : FVec F S2x1024x4x32 .f32 :=
  shapeCast S2x1024x4x32 (extractStridedSlice S2x1024x4x32x1 ![0, 0, 0, 0, 0]
    (shapeCast S2x1024x4x32x2 p shapeCasts_S2x1024x4x64_S2x1024x4x32x2) slices_S2x1024x4x32x2_S2x1024x4x32x1_0_0_0_0_0)
    shapeCasts_S2x1024x4x32x1_S2x1024x4x32

@[inherit_doc evens]
def odds (p : FVec F S2x1024x4x64 .f32) : FVec F S2x1024x4x32 .f32 :=
  shapeCast S2x1024x4x32 (extractStridedSlice S2x1024x4x32x1 ![0, 0, 0, 0, 1]
    (shapeCast S2x1024x4x32x2 p shapeCasts_S2x1024x4x64_S2x1024x4x32x2) slices_S2x1024x4x32x2_S2x1024x4x32x1_0_0_0_0_1)
    shapeCasts_S2x1024x4x32x1_S2x1024x4x32

/-- The pairs turned by a right angle: `(-odd, even)`. -/
def turned (p : FVec F S2x1024x4x64 .f32) : FVec F S2x1024x4x64 .f32 :=
  shapeCast S2x1024x4x64
    (concatenate S2x1024x4x32x2 4
      [⟨S2x1024x4x32x1, broadcastInDim S2x1024x4x32x1 ![0, 1, 2, 3] bcast_S2x1024x4x32_S2x1024x4x32x1_0_1_2_3 (Host.negf (odds p))⟩,
       ⟨S2x1024x4x32x1, broadcastInDim S2x1024x4x32x1 ![0, 1, 2, 3] bcast_S2x1024x4x32_S2x1024x4x32x1_0_1_2_3 (evens p)⟩]
      concatenates_S2x1024x4x32x1_S2x1024x4x32x1_S2x1024x4x32x2_d4)
    shapeCasts_S2x1024x4x32x2_S2x1024x4x64

/-- The rotation by the position's angles. -/
def rope (p : FVec F S2x1024x4x64 .f32) : FVec F S2x1024x4x64 .f32 :=
  addf (mulf p (spread (twice (Host.cos angles)))) (mulf (turned p) (spread (twice (Host.sin angles))))

/-- The scores of queries against keys. -/
def scores (q k : FVec F S2x1024x4x64 .f32) : FVec F S2x4x1024x1024 .f32 :=
  mulf (Host.dotGeneral dot_S2x1024x4x64_S2x1024x4x64_S2x4x1024x1024_3_3_1_1_02_02 none q k)
    (broadcastInDim S2x4x1024x1024 ![] bcast_S_S2x4x1024x1024 (constant S_ .f32 0x3E000000#32))

/-- A row's one number, along the row. -/
def along (v : FVec F S2x4x1024 .f32) : FVec F S2x4x1024x1024 .f32 :=
  broadcastInDim S2x4x1024x1024 ![0, 1, 2, 3] bcast_S2x4x1024x1_S2x4x1024x1024_0_1_2_3
    (broadcastInDim S2x4x1024x1 ![0, 1, 2] bcast_S2x4x1024_S2x4x1024x1_0_1_2 v)

/-- The exponentials of the scores less their row's largest. -/
def expos (s : FVec F S2x4x1024x1024 .f32) : FVec F S2x4x1024x1024 .f32 :=
  Host.exp (subf s (along (Host.reduce FloatOps.maximumf s (constant S_ .f32 0xFF800000#32)
    reducesTo_S2x4x1024x1024_S2x4x1024_d3 h_S_)))

/-- Every row divided by its sum. -/
def normed (e : FVec F S2x4x1024x1024 .f32) : FVec F S2x4x1024x1024 .f32 :=
  Host.divf e (along (Host.reduceAdd e (constant S_ .f32 0x00000000#32) reducesTo_S2x4x1024x1024_S2x4x1024_d3 h_S_))

/-- The values weighed. -/
def mixed (v : FVec F S2x1024x4x64 .f32) (p : FVec F S2x4x1024x1024 .f32) : FVec F S2x1024x256 .f32 :=
  shapeCast S2x1024x256
    (transpose S2x1024x4x64 [0, 3, 1, 2]
      (Host.dotGeneral dot_S2x1024x4x64_S2x4x1024x1024_S2x4x64x1024_1_3_3_2_02_01 none v p)
      transposes_S2x4x64x1024_S2x1024x4x64_0_3_1_2)
    shapeCasts_S2x1024x4x64_S2x1024x256

/-- The reference's result. -/
def refOut (x : FVec F S2x1024x512 .f32) (wq wk wv : FVec F S512x256 .f32) (wo : FVec F S256x512 .f32) :
    FVec F S2x1024x512 .f32 :=
  Host.dotGeneral dot_S2x1024x256_S256x512_S2x1024x512_2_0_01_1_n_n none
    (mixed (proj x wv) (normed (expos (scores (rope (proj x wq)) (rope (proj x wk)))))) wo

theorem run (m : (ℓ : Loc nD τ sig) → Buf (Elt F) ℓ) (g : Dev nD → PrngReg) :
    θ_run (defs (F := F)) (onTc main) ⟨m, fun _ => 0, g⟩ (fun r => ∀ c : Dev nD,
      r.2.mem (c.tc.loc main_v80) = refOut (m (c.tc.loc main_arg0)) (m (c.tc.loc main_arg1)) (m (c.tc.loc main_arg2))
        (m (c.tc.loc main_arg3)) (m (c.tc.loc main_arg4))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) := by
  hlo_run
  rfl

end Cert.ReferenceIdeal.Val

end
-- ==== Proof.Claims.lean ====
/- The reference's frame and the named constant. -/
module

public import proofs.«01_k».proof.Defs
public import proofs.«01_k».proof.Proof.Frames
public import proofs.«01_k».proof.Proof.RefRun

@[expose] public section

noncomputable section

namespace Cert.Proof

open Idealize.ShloMosaic Idealize.SL.Sem

theorem frame_ri : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Val.run (F := Ideal) m g)

/-- The named constant is the value that the certificate's table gives it. -/
theorem preserves : Cert.preserves_Kernel_KernelIdeal :=
  IdealRules.named_const.statement Cert.KernelIdeal.κ "rope" .f32 0xBE135D8E#32 ((-((Real.log 10000) * 64⁻¹) : ℝ) : EReal) rfl

end Cert.Proof

end
-- ==== Proof.Spec.lean ====
/- Rotary attention in plain mathematics, over the extended reals: what both programs are shown to compute. -/
module

public import Idealize.ShloMosaic.PureOps.Ideal.Laws

@[expose] public section

noncomputable section

namespace Cert.Attn

open Idealize.ShloMosaic

/-- The angular frequency of column `e` of a head: a pair of columns shares one. -/
def freq (e : ℕ) : ℝ := Real.exp (((2 * (e / 2) : ℕ) : ℝ) * (-(Real.log 10000 * 64⁻¹)))

/-- The angle at position `i`, column `n`. -/
def ang (i : ℕ) (n : ℕ) : ℝ := (i : ℝ) * freq (n % 64)

/-- The other column of the pair. -/
def mate (n : Fin 256) : Fin 256 := if n.val % 2 = 1 then ⟨n.val - 1, by omega⟩ else ⟨(n.val + 1) % 256, by omega⟩

/-- A row with its pairs turned by a right angle. -/
def turn (v : Fin 256 → EReal) (n : Fin 256) : EReal := if n.val % 2 = 1 then v (mate n) else -v (mate n)

/-- A row turned by its position's angles. -/
def rot (i : ℕ) (v : Fin 256 → EReal) (n : Fin 256) : EReal :=
  v n * ((Real.cos (ang i n.val) : ℝ) : EReal) + turn v n * ((Real.sin (ang i n.val) : ℝ) : EReal)

/-- A row times a matrix. -/
def lin {K N : ℕ} (x : Fin K → EReal) (w : Fin K → Fin N → EReal) (n : Fin N) : EReal := ∑ k, x k * w k n

/-- Column `e` of head `h`. -/
def col (h : Fin 4) (e : Fin 64) : Fin 256 := ⟨64 * h.val + e.val, by omega⟩

/-! ## One batch row of the sequence -/

section

variable (xs : Fin 1024 → Fin 512 → EReal) (wq wk wv : Fin 512 → Fin 256 → EReal) (wo : Fin 256 → Fin 512 → EReal)

/-- The head of column `n`. -/
def hd (n : Fin 256) : Fin 4 := ⟨n.val / 64, by omega⟩

/-- Position `i` of the sequence, projected and turned. -/
def turned (w : Fin 512 → Fin 256 → EReal) (i : Fin 1024) (n : Fin 256) : EReal := rot i.val (lin (xs i) w) n

/-- The kernel's weight of position `j` for position `i`: no maximum is taken off. -/
def kWt (h : Fin 4) (i j : Fin 1024) : EReal :=
  Ideal.exp (∑ e : Fin 64, turned xs wq i (col h e) * (((1 : ℝ) / 8 : ℝ) : EReal) * turned xs wk j (col h e))

/-- The kernel's result: the weighed values over the weights' sum. -/
def kRes (i : Fin 1024) (o : Fin 512) : EReal :=
  ∑ n : Fin 256, Ideal.div (∑ j, kWt xs wq wk (hd n) i j * lin (xs j) wv n) (∑ j, kWt xs wq wk (hd n) i j) * wo n o

/-- The reference's score. -/
def score (h : Fin 4) (i j : Fin 1024) : EReal :=
  (∑ e : Fin 64, turned xs wq i (col h e) * turned xs wk j (col h e)) * (((1 : ℝ) / 8 : ℝ) : EReal)

/-- The exponential of the reference's score less the row's largest. -/
def rExp (h : Fin 4) (i j : Fin 1024) : EReal :=
  Ideal.exp (score xs wq wk h i j - Finset.univ.fold max ⊥ fun j' => score xs wq wk h i j')

/-- The reference's result: the values under the normalised weights. -/
def rRes (i : Fin 1024) (o : Fin 512) : EReal :=
  ∑ n : Fin 256, (∑ j, lin (xs j) wv n * Ideal.div (rExp xs wq wk (hd n) i j) (∑ j', rExp xs wq wk (hd n) i j')) * wo n o

end

end Cert.Attn

end
-- ==== Proof.AttnEq.lean ====
/- The two results agree on finite queries and keys: a weight does not change when one number is taken off every score of its row. -/
module

public import proofs.«01_k».proof.Proof.Spec

@[expose] public section

noncomputable section

namespace Cert.Attn

open Idealize.ShloMosaic

/-- The value is a real number. -/
def IsR (a : EReal) : Prop := ∃ r : ℝ, a = (r : EReal)

/-- A sum of reals is real. -/
theorem IsR.add {a b : EReal} : IsR a → IsR b → IsR (a + b) := by
  rintro ⟨x, rfl⟩ ⟨y, rfl⟩; exact ⟨x + y, (EReal.coe_add x y).symm⟩
/-- A product of reals is real. -/
theorem IsR.mul {a b : EReal} : IsR a → IsR b → IsR (a * b) := by
  rintro ⟨x, rfl⟩ ⟨y, rfl⟩; exact ⟨x * y, (EReal.coe_mul x y).symm⟩
/-- The negation of a real is real. -/
theorem IsR.neg {a : EReal} : IsR a → IsR (-a) := by
  rintro ⟨x, rfl⟩; exact ⟨-x, (EReal.coe_neg x).symm⟩
/-- A real number is real. -/
theorem IsR.coe (r : ℝ) : IsR (r : EReal) := ⟨r, rfl⟩

/-- The sum of reals, taken among the reals or the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsR.sum {ι : Type} {s : Finset ι} {f : ι → EReal} (h : ∀ i, IsR (f i)) : IsR (∑ i ∈ s, f i) := by
  choose g hg using h
  exact ⟨∑ i ∈ s, g i, by rw [coe_sum']; exact Finset.sum_congr rfl fun i _ => hg i⟩

/-- A real factor that is not negative goes over a sum. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The largest of finitely many reals is real. -/
theorem fold_real (s : Fin 1024 → ℝ) : ∃ M : ℝ, Finset.univ.fold max ⊥ (fun j => (s j : EReal)) = (M : EReal) := by
  have ht : Finset.univ.fold max ⊥ (fun j => (s j : EReal)) < ⊤ :=
    (Finset.fold_max_lt ⊤).2 ⟨bot_lt_top, fun j _ => EReal.coe_lt_top _⟩
  have hb : ⊥ < Finset.univ.fold max ⊥ (fun j => (s j : EReal)) :=
    (Finset.lt_fold_max ⊥).2 (Or.inr ⟨0, Finset.mem_univ _, EReal.bot_lt_coe _⟩)
  exact ⟨_, (EReal.coe_toReal ht.ne hb.ne').symm⟩

variable {xs : Fin 1024 → Fin 512 → EReal} {wq wk wv : Fin 512 → Fin 256 → EReal} {wo : Fin 256 → Fin 512 → EReal}

/-- A real row times a real matrix is real. -/
theorem lin_real {w : Fin 512 → Fin 256 → EReal} (hx : ∀ i d, IsR (xs i d)) (hw : ∀ d n, IsR (w d n)) (i : Fin 1024) (n : Fin 256) :
    IsR (lin (xs i) w n) := IsR.sum fun d => (hx i d).mul (hw d n)

/-- A projected and turned row is real. -/
theorem turned_real {w : Fin 512 → Fin 256 → EReal} (hx : ∀ i d, IsR (xs i d)) (hw : ∀ d n, IsR (w d n)) (i : Fin 1024) (n : Fin 256) :
    IsR (turned xs w i n) := by
  have ht : IsR (turn (lin (xs i) w) n) := by
    unfold turn
    split_ifs
    · exact lin_real hx hw i _
    · exact (lin_real hx hw i _).neg
  exact ((lin_real hx hw i n).mul (IsR.coe _)).add (ht.mul (IsR.coe _))

/-- The scores are real, and both programs' weights are their exponentials. -/
theorem score_real (hx : ∀ i d, IsR (xs i d)) (hq : ∀ d n, IsR (wq d n)) (hk : ∀ d n, IsR (wk d n)) (h : Fin 4) (i : Fin 1024) :
    ∃ s : Fin 1024 → ℝ, (∀ j, score xs wq wk h i j = (s j : EReal)) ∧ ∀ j, kWt xs wq wk h i j = ((Real.exp (s j) : ℝ) : EReal) := by
  choose q hq' using fun n => turned_real hx hq i n
  choose k hk' using fun j n => turned_real hx hk j n
  refine ⟨fun j => (∑ e : Fin 64, q (col h e) * k j (col h e)) * (1 / 8), fun j => ?_, fun j => ?_⟩
  · unfold score
    simp only [hq', hk']
    rw [EReal.coe_mul, coe_sum']
    simp only [EReal.coe_mul]
  · unfold kWt
    simp only [hq', hk', ← EReal.coe_mul]
    rw [← coe_sum', Ideal.exp_coe, Finset.sum_mul]
    exact congrArg (fun t : ℝ => ((Real.exp t : ℝ) : EReal)) (Finset.sum_congr rfl fun e _ => by ring)

/-- A row's results agree at every column. -/
theorem col_eq (hx : ∀ i d, IsR (xs i d)) (hq : ∀ d n, IsR (wq d n)) (hk : ∀ d n, IsR (wk d n)) (h : Fin 4) (i : Fin 1024)
    (v : Fin 1024 → EReal) :
    Ideal.div (∑ j, kWt xs wq wk h i j * v j) (∑ j, kWt xs wq wk h i j)
      = ∑ j, v j * Ideal.div (rExp xs wq wk h i j) (∑ j', rExp xs wq wk h i j') := by
  obtain ⟨s, hs, hw⟩ := score_real hx hq hk h i
  obtain ⟨M, hM⟩ := fold_real s
  have hr : ∀ j, rExp xs wq wk h i j = ((Real.exp (s j - M) : ℝ) : EReal) := fun j => by
    unfold rExp
    simp only [hs]
    rw [hM, ← EReal.coe_sub, Ideal.exp_coe]
  have hL : 0 < ∑ j, Real.exp (s j) := Finset.sum_pos (fun j _ => Real.exp_pos _) Finset.univ_nonempty
  have hL' : 0 < ∑ j, Real.exp (s j - M) := Finset.sum_pos (fun j _ => Real.exp_pos _) Finset.univ_nonempty
  simp only [hw, hr]
  rw [← coe_sum', ← coe_sum', Ideal.div_coe hL.ne', sum_mul_real _ _ (one_div_pos.2 hL).le]
  refine Finset.sum_congr rfl fun j _ => ?_
  rw [Ideal.div_coe hL'.ne', mul_comm _ (v j), mul_assoc, ← EReal.coe_mul, ← EReal.coe_mul]
  refine congrArg (fun t : ℝ => v j * (t : EReal)) ?_
  have hsub : ∑ j, Real.exp (s j - M) = (∑ j, Real.exp (s j)) * Real.exp (-M) := by
    rw [Finset.sum_mul]; exact Finset.sum_congr rfl fun j _ => by rw [sub_eq_add_neg, Real.exp_add]
  rw [hsub, sub_eq_add_neg, Real.exp_add]
  have := Real.exp_pos (-M)
  field_simp

/-- The kernel's result is the reference's. -/
theorem res_eq (hx : ∀ i d, IsR (xs i d)) (hq : ∀ d n, IsR (wq d n)) (hk : ∀ d n, IsR (wk d n)) (i : Fin 1024) (o : Fin 512) :
    kRes xs wq wk wv wo i o = rRes xs wq wk wv wo i o :=
  Finset.sum_congr rfl fun n _ => congrArg (· * wo n o) (col_eq hx hq hk (hd n) i fun j => lin (xs j) wv n)

end Cert.Attn

end
-- ==== Proof.Consts.lean ====
/- The programs' float constants as extended reals. -/
module

public import Idealize.ShloMosaic.PureOps.Ideal

@[expose] public section

noncomputable section

namespace Cert.Attn

open Idealize.ShloMosaic

/-- The scale of the scores. -/
theorem word_eighth : Ideal.ofBits .f32 0x3E000000#32 = (((1 : ℝ) / 8 : ℝ) : EReal) := by
  simp [Ideal.ofBits, Ideal.ieee, -EReal.coe_mul]; norm_num

/-- The columns of a head. -/
theorem word_64 : Ideal.ofBits .f32 0x42800000#32 = ((64 : ℝ) : EReal) := by
  simp [Ideal.ofBits, Ideal.ieee, -EReal.coe_mul]; norm_num

/-- The base of the frequencies. -/
theorem word_base : Ideal.ofBits .f32 0x461C4000#32 = ((10000 : ℝ) : EReal) := by
  simp [Ideal.ofBits, Ideal.ieee, -EReal.coe_mul]; norm_num

/-- The start of a maximum. -/
theorem word_bot : Ideal.ofBits .f32 0xFF800000#32 = ⊥ := by
  simp [Ideal.ofBits, Ideal.ieee]

/-- The bound of the precondition. -/
theorem word_top : Ideal.ofBits .f32 0x7F800000#32 = ⊤ := by
  simp [Ideal.ofBits, Ideal.ieee]

end Cert.Attn

end
-- ==== Proof.Finite.lean ====
/- The precondition's side conditions, and what it gives: every entry of the activations and of the query and key weights is a real. -/
module

public import proofs.«01_k».proof.Pre_finite_KernelIdeal
public import proofs.«01_k».proof.Pre_finite_ReferenceIdeal
public import proofs.«01_k».proof.Proof.AttnEq
public import proofs.«01_k».proof.Proof.Consts
public import Idealize.ShloMosaic.Lib.ReduceAll

@[expose] public section

noncomputable section

namespace Cert.Proof

open Idealize.ShloMosaic Cert.Attn

/-- The side conditions of the precondition on a device's block. -/
instance finK : Cert.Pre_finite_KernelIdeal.Facts where
  bcast_S_S2x128x512 := by decide
  reducesTo_S2x128x512_S_d0_1_2 := by decide
  h_S_ := by decide
  bcast_S_S512x256 := by decide
  reducesTo_S512x256_S_d0_1 := by decide

/-- The side conditions of the precondition on the whole arrays. -/
instance finR : Cert.Pre_finite_ReferenceIdeal.Facts where
  bcast_S_S2x1024x512 := by decide
  reducesTo_S2x1024x512_S_d0_1_2 := by decide
  h_S_ := by decide
  bcast_S_S512x256 := by decide
  reducesTo_S512x256_S_d0_1 := by decide

/-- A value whose absolute value is below infinity is real. -/
theorem real_of_abs {a : EReal} (h : BitVec.ofBool (decide (max a (-a) < Ideal.ofBits .f32 0x7F800000#32)) = 1#1) : IsR a := by
  rw [word_top] at h
  have hlt : max a (-a) < ⊤ := by
    by_contra hn
    rw [decide_eq_false hn] at h
    exact absurd h (by decide)
  have ht : a ≠ ⊤ := (lt_of_le_of_lt (le_max_left _ _) hlt).ne
  have hb : a ≠ ⊥ := fun e => by
    rw [e] at hlt
    exact absurd hlt (by simp)
  exact ⟨a.toReal, (EReal.coe_toReal ht hb).symm⟩

/-- A conjunction is true when both its bits are. -/
theorem and_one {a b : BitVec 1} (h : IntOp.andi a b = 1#1) : a = 1#1 ∧ b = 1#1 := by
  revert a b; decide

/-- Under the precondition the activations and the query and key weights are real. -/
theorem finite_real {x : FVec Ideal Cert.Pre_finite_KernelIdeal.S2x128x512 .f32}
    {wq wk wv : FVec Ideal Cert.Pre_finite_KernelIdeal.S512x256 .f32} {wo : FVec Ideal Cert.Pre_finite_KernelIdeal.S256x512 .f32}
    (h : Cert.Pre_finite_KernelIdeal.fn (F := Ideal) x wq wk wv wo = fun _ => 1#1) :
    (∀ i, IsR (x i)) ∧ (∀ i, IsR (wq i)) ∧ ∀ i, IsR (wk i) := by
  have h0 := congrFun h (fun a => a.elim0)
  dsimp only [Cert.Pre_finite_KernelIdeal.fn] at h0
  obtain ⟨h1, hk⟩ := and_one h0
  obtain ⟨hx, hq⟩ := and_one h1
  haveI : Subsingleton (Cert.Pre_finite_KernelIdeal.S_).Idx := ⟨fun a b => funext fun t => t.elim0⟩
  exact ⟨fun i => real_of_abs (Host.reduce_andi_all _ _ _ _ _ hx i), fun i => real_of_abs (Host.reduce_andi_all _ _ _ _ _ hq i),
    fun i => real_of_abs (Host.reduce_andi_all _ _ _ _ _ hk i)⟩

end Cert.Proof

end
-- ==== Proof.KVal.lean ====
/- What the kernel's blocks are, at an index, over the extended reals. -/
module

public import proofs.«01_k».proof.Proof.Prog
public import proofs.«01_k».proof.Proof.Spec
public import proofs.«01_k».proof.Proof.Consts
public import Idealize.ShloMosaic.Lib.Pointwise

@[expose] public section

set_option maxRecDepth 16384

noncomputable section

namespace Cert.KernelIdeal.Val

open Cert.KernelIdeal Cert.KernelIdeal.Gen Cert.KernelIdeal.Alg Cert.Attn
open Idealize.ShloMosaic

/-- The named factor of the exponent. -/
theorem rope_const : (Named.named κ "rope" 0xBE135D8E#32 : Ideal .f32) = ((-(Real.log 10000 * 64⁻¹) : ℝ) : EReal) :=
  IdealRules.named_const.ideal_named_scalar _ _ _ _ rfl

/-- An integer converted is that integer. -/
theorem sitofp_of {w : BitVec 32} {k : ℕ} (h : w.toInt = (k : ℤ)) : (FloatOps.sitofp .f32 w : Ideal .f32) = ((k : ℝ) : EReal) := by
  show (((w.toInt : ℝ)) : EReal) = _
  rw [h]; norm_cast

/-- The word of the column's even index inside its head. -/
def evenWord (n : BitVec 32) : BitVec 32 :=
  IntOp.muli
    (Scalar.select
      (IntOp.andi
        (IntOp.cmpi .ne
          (IntOp.subi
            (BitVec.setWidth 32 (IntOp.cmpi .sgt (IntOp.remsi .vector n 64#32) 0#32))
            (BitVec.setWidth 32 (IntOp.cmpi .slt (IntOp.remsi .vector n 64#32) 0#32)))
          (Scalar.subi (Scalar.extui (Scalar.cmpi .sgt 2#32 0#32)) (Scalar.extui (Scalar.cmpi .slt 2#32 0#32))))
        (IntOp.cmpi .ne (IntOp.remsi .vector (IntOp.remsi .vector n 64#32) 2#32) 0#32))
      (IntOp.subi (IntOp.divsi .vector (IntOp.remsi .vector n 64#32) 2#32) 1#32)
      (IntOp.divsi .vector (IntOp.remsi .vector n 64#32) 2#32))
    2#32

/-- That word is the even number at or below the column in its head. -/
theorem evenWord_eq : ∀ n : Fin 256, (evenWord (BitVec.ofNat 32 n.val)).toInt = ((2 * (n.val % 64 / 2) : ℕ) : ℤ) := by
  decide +kernel

/-- The even column index, as a float. -/
theorem pay1_apply (r : Fin 128) (n : Fin 256) :
    k0_pay1 (F := Ideal) (ix2 r n) = (((2 * (n.val % 64 / 2) : ℕ) : ℝ) : EReal) := by
  pointwise [k0_pay1]
  exact sitofp_of (evenWord_eq n)

/-- The word of a row's position in the whole sequence. -/
theorem posWord_eq : ∀ (c : Dev nD) (r : Fin 128),
    (IntOp.addi (Scalar.muli (posW c) 128#32) (BitVec.ofNat 32 r.val)).toInt = ((128 * c.val + r.val : ℕ) : ℤ) := by
  decide +kernel

/-- The table of angles. -/
theorem pay2_apply (c : Dev nD) (r : Fin 128) (n : Fin 256) :
    k0_pay2 (posW c) (k0_pay1 (F := Ideal)) (Named.named κ "rope" 0xBE135D8E#32) (ix2 r n)
      = ((ang (128 * c.val + r.val) n.val : ℝ) : EReal) := by
  pointwise [k0_pay2]
  rw [pay1_apply, rope_const, sitofp_of (posWord_eq c r), ← EReal.coe_mul, Ideal.exp_coe, ← EReal.coe_mul]
  rfl

/-- Two small numbers' words are equal when the numbers are. -/
theorem bit_eq {k m : ℕ} (hk : k < 256) (hm : m < 257) :
    IntOp.cmpi .eq (BitVec.ofNat 32 k) (BitVec.ofNat 32 m) = if k = m then 1#1 else 0#1 := by
  by_cases h : k = m
  · subst h; simp [IntOp.cmpi]
  · have : ¬ BitVec.ofNat 32 k = BitVec.ofNat 32 m := fun e => h (by
      have := congrArg BitVec.toNat e
      simp only [BitVec.toNat_ofNat] at this
      omega)
    simp only [IntOp.cmpi, if_neg h]
    rw [show (BitVec.ofNat 32 k == BitVec.ofNat 32 m) = false from by simpa using this]
    rfl

/-- The test for an odd column. -/
theorem par_one : ∀ n : Fin 256, IntOp.cmpi .eq (IntOp.remsi .vector (BitVec.ofNat 32 n.val) 2#32) 1#32
    = if n.val % 2 = 1 then 1#1 else 0#1 := by decide +kernel
/-- The test for an even column. -/
theorem par_zero : ∀ n : Fin 256, IntOp.cmpi .eq (IntOp.remsi .vector (BitVec.ofNat 32 n.val) 2#32) 0#32
    = if n.val % 2 = 1 then 0#1 else 1#1 := by decide +kernel
/-- The column before an odd one. -/
theorem pred_word : ∀ n : Fin 256, n.val % 2 = 1 → IntOp.subi (BitVec.ofNat 32 n.val) 1#32 = BitVec.ofNat 32 (n.val - 1) := by
  decide +kernel
/-- The column after. -/
theorem succ_word : ∀ n : Fin 256, IntOp.addi (BitVec.ofNat 32 n.val) 1#32 = BitVec.ofNat 32 (n.val + 1) := by
  decide +kernel

/-- A conjunction with a false bit. -/
theorem andi_left (b : BitVec 1) : IntOp.andi 0#1 b = 0#1 := by simp [IntOp.andi]
/-- A conjunction with a true bit. -/
theorem andi_right (b : BitVec 1) : IntOp.andi 1#1 b = b := by revert b; decide

/-- A true bit as a float. -/
theorem fl_one : (FloatOps.sitofp .f32 (BitVec.setWidth 32 1#1) : Ideal .f32) = 1 :=
  (sitofp_of (k := 1) (by decide)).trans (by norm_num)
/-- A false bit as a float. -/
theorem fl_zero : (FloatOps.sitofp .f32 (BitVec.setWidth 32 0#1) : Ideal .f32) = 0 :=
  (sitofp_of (k := 0) (by decide)).trans (by norm_num)

/-- The matrix of signs: one entry in each column, at the other column of its pair. -/
theorem pay5_apply (k n : Fin 256) :
    k0_pay5 (F := Ideal) (ix2 k n) = if k = mate n then (if n.val % 2 = 1 then 1 else -1) else 0 := by
  pointwise [k0_pay5]
  rw [par_one, par_zero]
  by_cases hn : n.val % 2 = 1
  · have hm : (k = mate n) ↔ k.val = n.val - 1 := by simp [mate, hn, Fin.ext_iff]
    rw [if_pos hn, if_pos hn, andi_right, andi_left, pred_word n hn, bit_eq k.isLt (by omega), fl_zero, if_pos hn]
    by_cases h : k.val = n.val - 1
    · rw [if_pos h, if_pos (hm.2 h), fl_one, sub_zero]
    · rw [if_neg h, if_neg fun e => h (hm.1 e), fl_zero, sub_zero]
  · have hm : (k = mate n) ↔ k.val = n.val + 1 := by simp [mate, hn, Fin.ext_iff]; omega
    rw [if_neg hn, if_neg hn, andi_left, andi_right, succ_word, bit_eq k.isLt (by omega), fl_zero, if_neg hn]
    by_cases h : k.val = n.val + 1
    · rw [if_pos h, if_pos (hm.2 h), fl_one, zero_sub]
    · rw [if_neg h, if_neg fun e => h (hm.1 e), fl_zero, sub_zero]

/-- A row times the matrix of signs is the row turned. -/
theorem turn_eq (v : Fin 256 → EReal) (n : Fin 256) : ∑ k, v k * k0_pay5 (F := Ideal) (ix2 k n) = turn v n := by
  rw [Finset.sum_eq_single (mate n)]
  · rw [pay5_apply, if_pos rfl, turn]
    split_ifs
    · exact mul_one _
    · rw [mul_neg, mul_one]
  · intro k _ hk
    rw [pay5_apply, if_neg hk, mul_zero]
  · intro h; exact absurd (Finset.mem_univ _) h

/-- A key block is the projection, turned by the positions' angles. -/
theorem kBlk_apply (c : Dev nD) (wk : Vec Ideal S512x256 .f32) (x : Vec Ideal S1x128x512 .f32) (r : Fin 128) (n : Fin 256) :
    kBlk c wk x (ix4 0 0 r n) = rot (128 * c.val + r.val) (lin (fun d => x (ix3 0 r d)) (fun d n => wk (ix2 d n))) n := by
  pointwise [kBlk, k0_pay10, k0_pay6, k0_pay8, cosV, sinV, k0_pay3, k0_pay4]
  rw [pay2_apply, turn_eq (fun j => ∑ d, x (ix3 0 r d) * wk (ix2 d j)), Ideal.cos_coe, Ideal.sin_coe]
  rfl

/-- A value block is the projection. -/
theorem vBlk_apply (wv : Vec Ideal S512x256 .f32) (x : Vec Ideal S1x128x512 .f32) (r : Fin 128) (n : Fin 256) :
    vBlk wv x (ix4 0 0 r n) = lin (fun d => x (ix3 0 r d)) (fun d n => wv (ix2 d n)) n := by
  pointwise [vBlk, k0_pay11, k0_pay7, k0_pay8, lin]

/-- A query block is the projection, turned and scaled by an eighth. -/
theorem qBlk_apply (c : Dev nD) (wq : Vec Ideal S512x256 .f32) (x : Vec Ideal S1x128x512 .f32) (r : Fin 128) (n : Fin 256) :
    qBlk c wq x (ix2 r n)
      = rot (128 * c.val + r.val) (lin (fun d => x (ix3 0 r d)) (fun d n => wq (ix2 d n))) n * ((1 / 8 : ℝ) : EReal) := by
  pointwise [qBlk, k0_pay16, k0_pay14, k0_pay15, k0_pay8, cosV, sinV, k0_pay3, k0_pay4]
  rw [pay2_apply, turn_eq (fun j => ∑ d, x (ix3 0 r d) * wq (ix2 d j)), Ideal.cos_coe, Ideal.sin_coe, word_eighth]
  rfl

/-- A head's weights on a block. -/
theorem wts_apply (h : Fin 4) (q : FVec Ideal S128x256 .bf16) (kv : Vec Ideal S1x1x256x256 .bf16) (r j : Fin 128) :
    wts h q kv (ix2 r j)
      = Ideal.exp (∑ e : Fin 64, q (ix2 r (col h e)) * kv (ix4 0 0 ⟨j.val, by omega⟩ (col h e))) := by
  pointwise [wts, head, keys]
  rfl

/-- A block adds its weights to the running sum. -/
theorem accStep_l (h : Fin 4) (q : FVec Ideal S128x256 .bf16) (kv : Vec Ideal S1x1x256x256 .bf16) (s : Acc Ideal) (r : Fin 128) :
    (accStep h q kv s).l (ix2 r 0) = s.l (ix2 r 0) + ∑ j : Fin 128, wts h q kv (ix2 r j) := by
  pointwise [accStep]

/-- A block adds its weighed values to the running sum. -/
theorem accStep_a (h : Fin 4) (q : FVec Ideal S128x256 .bf16) (kv : Vec Ideal S1x1x256x256 .bf16) (s : Acc Ideal) (r : Fin 128) (e : Fin 64) :
    (accStep h q kv s).a (ix2 r e)
      = s.a (ix2 r e) + ∑ j : Fin 128, wts h q kv (ix2 r j) * kv (ix4 0 0 ⟨128 + j.val, by omega⟩ (col h e)) := by
  pointwise [accStep, head, vals]
  rfl

/-- The output block: the quotients of the running sums, times the output weights. -/
theorem oBlk_apply (s : Fin 4 → Acc Ideal) (wo : Vec Ideal S256x512 .f32) (r : Fin 128) (o : Fin 512) :
    oBlk s wo (ix3 0 r o)
      = ∑ n : Fin 256, Ideal.div ((s ⟨n.val / 64, by omega⟩).a (ix2 r ⟨n.val % 64, by omega⟩)) ((s ⟨n.val / 64, by omega⟩).l (ix2 r 0))
          * wo (ix2 n o) := by
  pointwise [oBlk, k0_pay291, k0_pay290, k0_pay289]
  refine Finset.sum_congr rfl fun n _ => ?_
  have at4 : ∀ (h h' : Fin 4) (e e' : Fin 64), h = h' → e = e' →
      Ideal.div ((s h).a (ix2 r e)) ((s h).l (ix2 r 0)) * wo (ix2 n o)
        = Ideal.div ((s h').a (ix2 r e')) ((s h').l (ix2 r 0)) * wo (ix2 n o) := by
    rintro h _ e _ rfl rfl; rfl
  have hn := n.isLt
  split_ifs <;> refine at4 _ _ _ _ (Fin.ext ?_) (Fin.ext ?_) <;> simp <;> omega

end Cert.KernelIdeal.Val

end
-- ==== Proof.KOut.lean ====
/- The kernel's result at an index: the eight gathered blocks are the whole sequence. -/
module

public import proofs.«01_k».proof.Proof.KVal
public import proofs.«01_k».proof.Proof.Frames

@[expose] public section

set_option maxRecDepth 16384

noncomputable section

namespace Cert.KernelIdeal.Val

open Cert.KernelIdeal Cert.KernelIdeal.Gen Cert.KernelIdeal.Alg Cert.KernelIdeal.Proto Cert.Attn
open Idealize.ShloMosaic

variable (m : (ℓ : Loc nD τ sig) → Buf (Elt Ideal) ℓ)

/-- The first half of a gathered block holds keys. -/
theorem kvAt_key (o : Dev nD) (b : Fin 2) (j : Fin 128) (n : Fin 256) :
    kvAt m o b (ix4 0 0 ⟨j.val, by omega⟩ n)
      = rot (128 * o.val + j.val) (lin (fun d => xin m o (ix3 b j d)) (fun d n => wkin m o (ix2 d n))) n :=
  (dif_pos j.isLt).trans (kBlk_apply o (wkin m o) (xrow m o b) j n)

/-- The second half of a gathered block holds values. -/
theorem kvAt_val (o : Dev nD) (b : Fin 2) (j : Fin 128) (n : Fin 256) :
    kvAt m o b (ix4 0 0 ⟨128 + j.val, by omega⟩ n)
      = lin (fun d => xin m o (ix3 b j d)) (fun d n => wvin m o (ix2 d n)) n := by
  refine (dif_neg (by simp)).trans ?_
  refine Eq.trans ?_ (vBlk_apply (wvin m o) (xrow m o b) j n)
  exact congrArg (fun r => vBlk (wvin m o) (xrow m o b) (ix4 0 0 r n)) (Fin.ext (by simp))

/-- A device's queries. -/
theorem qAt_apply (c : Dev nD) (b : Fin 2) (r : Fin 128) (n : Fin 256) :
    qAt m c b (ix2 r n)
      = rot (128 * c.val + r.val) (lin (fun d => xin m c (ix3 b r d)) (fun d n => wqin m c (ix2 d n))) n * ((1 / 8 : ℝ) : EReal) :=
  qBlk_apply c (wqin m c) (xrow m c b) r n

/-- One batch row's and head's fold. -/
theorem consume_apply (q : Fin 2 → FVec Ideal S128x256 .bf16) (kv : Fin 2 → Vec Ideal S1x1x256x256 .bf16) (s : St Ideal) (b : Fin 2) (h : Fin 4) :
    consume (q 0) (q 1) (kv 0) (kv 1) s b h = accStep h (q b) (kv b) (s b h) := by
  match b with
  | 0 => rfl
  | 1 => rfl

/-- What block `o` adds to the sum of the weights. -/
def addL (c o : Dev nD) (b : Fin 2) (h : Fin 4) (r : Fin 128) : EReal := ∑ j : Fin 128, wts h (qAt m c b) (kvAt m o b) (ix2 r j)

/-- What block `o` adds to the weighed values. -/
def addA (c o : Dev nD) (b : Fin 2) (h : Fin 4) (r : Fin 128) (e : Fin 64) : EReal :=
  ∑ j : Fin 128, wts h (qAt m c b) (kvAt m o b) (ix2 r j) * kvAt m o b (ix4 0 0 ⟨128 + j.val, by omega⟩ (col h e))

/-- The received blocks add their weights. -/
theorem foldS_l (c : Dev nD) (b : Fin 2) (h : Fin 4) (r : Fin 128) (l : List (Fin 7)) (s : St Ideal) :
    (foldS m c (qAt m c 0) (qAt m c 1) l s b h).l (ix2 r 0)
      = (s b h).l (ix2 r 0) + (l.map fun j => addL m c (bwd j c) b h r).sum := by
  induction l generalizing s with
  | nil => exact (add_zero _).symm
  | cons j js ih =>
    refine (ih _).trans ?_
    beta_reduce
    rw [show (consume (qAt m c 0) (qAt m c 1) (kvAt m (bwd j c) 0) (kvAt m (bwd j c) 1) s b h) = _ from
      consume_apply (qAt m c) (kvAt m (bwd j c)) s b h, accStep_l, List.map_cons, List.sum_cons, add_assoc]
    rfl

/-- The received blocks add their weighed values. -/
theorem foldS_a (c : Dev nD) (b : Fin 2) (h : Fin 4) (r : Fin 128) (e : Fin 64) (l : List (Fin 7)) (s : St Ideal) :
    (foldS m c (qAt m c 0) (qAt m c 1) l s b h).a (ix2 r e)
      = (s b h).a (ix2 r e) + (l.map fun j => addA m c (bwd j c) b h r e).sum := by
  induction l generalizing s with
  | nil => exact (add_zero _).symm
  | cons j js ih =>
    refine (ih _).trans ?_
    beta_reduce
    rw [show (consume (qAt m c 0) (qAt m c 1) (kvAt m (bwd j c) 0) (kvAt m (bwd j c) 1) s b h) = _ from
      consume_apply (qAt m c) (kvAt m (bwd j c)) s b h, accStep_a, List.map_cons, List.sum_cons, add_assoc]
    rfl

/-- A device and the seven behind it are all eight. -/
theorem around_perm : ∀ c : Dev nD, (c :: all7.map fun j => bwd j c).Perm (List.finRange 8) := by decide +kernel

/-- The own block and the seven received are all eight. -/
theorem sum_around (f : Dev nD → EReal) (c : Dev nD) : f c + (all7.map fun j => f (bwd j c)).sum = ∑ o, f o := by
  have h := ((around_perm c).map f).sum_eq
  rw [List.map_cons, List.sum_cons, List.map_map] at h
  exact h.trans (Fin.sum_univ_def f).symm

/-- The sum of the weights starts at zero. -/
theorem acc0_l (b : Fin 2) (h : Fin 4) (r : Fin 128) : (acc0 (F := Ideal) b h).l (ix2 r 0) = 0 := Ideal.ofBits_zero_f32
/-- The weighed values start at zero. -/
theorem acc0_a (b : Fin 2) (h : Fin 4) (r : Fin 128) (e : Fin 64) : (acc0 (F := Ideal) b h).a (ix2 r e) = 0 := Ideal.ofBits_zero_f32

/-- After all blocks: the sum of the weights, block by block. -/
theorem stAt_l (c : Dev nD) (b : Fin 2) (h : Fin 4) (r : Fin 128) : (stAt m c b h).l (ix2 r 0) = ∑ o, addL m c o b h r := by
  refine (foldS_l m c b h r all7 _).trans ?_
  rw [consume_apply (qAt m c) (kvAt m c), accStep_l, acc0_l, zero_add]
  exact sum_around (fun o => addL m c o b h r) c

/-- After all blocks: the weighed values, block by block. -/
theorem stAt_a (c : Dev nD) (b : Fin 2) (h : Fin 4) (r : Fin 128) (e : Fin 64) : (stAt m c b h).a (ix2 r e) = ∑ o, addA m c o b h r e := by
  refine (foldS_a m c b h r e all7 _).trans ?_
  rw [consume_apply (qAt m c) (kvAt m c), accStep_a, acc0_a, zero_add]
  exact sum_around (fun o => addA m c o b h r e) c

/-- Row `r` of device `o`'s block, as a position of the sequence. -/
def pos (o : Dev nD) (r : Fin 128) : Fin 1024 := ⟨128 * o.val + r.val, by have := o.isLt; have := r.isLt; change o.val < 8 at *; omega⟩

/-- A sum over the sequence is a sum over the blocks. -/
theorem sum_pos (f : Fin 1024 → EReal) : ∑ o : Dev nD, ∑ r : Fin 128, f (pos o r) = ∑ i, f i := by
  rw [← Fintype.sum_prod_type' (fun (o : Fin 8) (r : Fin 128) => f (pos o r))]
  rw [← Equiv.sum_comp (finProdFinEquiv (m := 8) (n := 128)) f]
  refine Finset.sum_congr rfl fun p _ => congrArg f (Fin.ext ?_)
  show 128 * p.1.val + p.2.val = p.2.val + 128 * p.1.val
  omega

section

variable (X : Fin 2 → Fin 1024 → Fin 512 → EReal) (Wq Wk Wv : Fin 512 → Fin 256 → EReal) (Wo : Fin 256 → Fin 512 → EReal)
variable (hx : ∀ o b r d, xin m o (ix3 b r d) = X b (pos o r) d) (hq : ∀ o d n, wqin m o (ix2 d n) = Wq d n)
variable (hk : ∀ o d n, wkin m o (ix2 d n) = Wk d n) (hv : ∀ o d n, wvin m o (ix2 d n) = Wv d n) (ho : ∀ c n o, woin m c (ix2 n o) = Wo n o)

include hx hq hk in
/-- A weight, by positions of the sequence. -/
theorem wts_at (c o : Dev nD) (b : Fin 2) (h : Fin 4) (r j : Fin 128) :
    wts h (qAt m c b) (kvAt m o b) (ix2 r j) = kWt (X b) Wq Wk h (pos c r) (pos o j) := by
  rw [wts_apply, kWt]
  refine congrArg Ideal.exp (Finset.sum_congr rfl fun e _ => ?_)
  rw [qAt_apply, kvAt_key]
  simp only [hx, hq, hk]
  rfl

include hx hq hk in
/-- The sum of the weights over the sequence. -/
theorem stAt_l_eq (c : Dev nD) (b : Fin 2) (h : Fin 4) (r : Fin 128) :
    (stAt m c b h).l (ix2 r 0) = ∑ j, kWt (X b) Wq Wk h (pos c r) j := by
  rw [stAt_l, ← sum_pos]
  exact Finset.sum_congr rfl fun o _ => Finset.sum_congr rfl fun j _ => wts_at m X Wq Wk hx hq hk c o b h r j

include hx hq hk hv in
/-- The weighed values over the sequence. -/
theorem stAt_a_eq (c : Dev nD) (b : Fin 2) (h : Fin 4) (r : Fin 128) (e : Fin 64) :
    (stAt m c b h).a (ix2 r e) = ∑ j, kWt (X b) Wq Wk h (pos c r) j * lin (X b j) Wv (col h e) := by
  rw [stAt_a, ← sum_pos]
  refine Finset.sum_congr rfl fun o _ => Finset.sum_congr rfl fun j _ => ?_
  rw [wts_at m X Wq Wk hx hq hk, kvAt_val]
  simp only [hx, hv]

include hx hq hk hv ho in
/-- What a device writes is its block of the kernel's mathematics. -/
theorem outAt_eq (c : Dev nD) (b : Fin 2) (r : Fin 128) (o : Fin 512) :
    outAt m c (ix3 b r o) = kRes (X b) Wq Wk Wv Wo (pos c r) o := by
  refine (oBlk_apply (stAt m c b) (woin m c) r o).trans ?_
  refine Finset.sum_congr rfl fun n _ => ?_
  have hn : col (hd n) ⟨n.val % 64, Nat.mod_lt _ (by decide)⟩ = n := Fin.ext (by simp only [col, hd]; omega)
  have ha := stAt_a_eq m X Wq Wk Wv hx hq hk hv c b (hd n) r ⟨n.val % 64, Nat.mod_lt _ (by decide)⟩
  rw [hn] at ha
  have hl := stAt_l_eq m X Wq Wk hx hq hk c b (hd n) r
  exact congrArg₂ (· * ·) (congrArg₂ Ideal.div ha hl) (ho c n o)

end

end Cert.KernelIdeal.Val

end
-- ==== Proof.RefVal.lean ====
/- The reference's result at an index, over the extended reals. -/
module

public import proofs.«01_k».proof.Proof.RefRun
public import proofs.«01_k».proof.Proof.Spec
public import proofs.«01_k».proof.Proof.Consts
public import Idealize.ShloMosaic.Lib.Pointwise

@[expose] public section

set_option maxRecDepth 16384

noncomputable section

namespace Cert.ReferenceIdeal.Val

open Cert.ReferenceIdeal Cert.ReferenceIdeal.Gen
open Cert.Attn (freq ang mate turn rot lin col hd word_64 word_base word_eighth word_bot)
open Idealize.ShloMosaic

/-- An integer converted is that integer. -/
theorem sitofp_of {w : BitVec 32} {k : ℕ} (h : w.toInt = (k : ℤ)) : (FloatOps.sitofp .f32 w : Ideal .f32) = ((k : ℝ) : EReal) := by
  show (((w.toInt : ℝ)) : EReal) = _
  rw [h]; norm_cast

/-- The word of twice the pair's index. -/
theorem evenWord_eq : ∀ k : Fin 32, (IntOp.addi 0#32 (IntOp.muli 2#32 (BitVec.ofNat 32 k.val))).toInt = ((2 * k.val : ℕ) : ℤ) := by
  decide +kernel

/-- The word of a position. -/
theorem posWord_eq : ∀ i : Fin 1024, (BitVec.ofNat 32 i.val).toInt = (i.val : ℤ) := by decide +kernel

/-- A pair's frequency. -/
theorem freqs_apply (k : Fin 32) : freqs (F := Ideal) (ix1 k) = ((freq (2 * k.val) : ℝ) : EReal) := by
  pointwise [freqs]
  rw [sitofp_of (evenWord_eq k), word_base, word_64, Ideal.div_coe (by norm_num), ← EReal.coe_mul, Ideal.pow_coe_coe,
    Real.rpow_eq_pow, Ideal.div_coe (Real.rpow_pos_of_pos (by norm_num) _).ne', one_mul]
  congr 1
  rw [freq, Nat.mul_div_cancel_left _ (by decide : 0 < 2), Real.rpow_def_of_pos (by norm_num), one_div, ← Real.exp_neg]
  congr 1
  ring

/-- An angle is position times frequency. -/
theorem angles_apply (i : Fin 1024) (k : Fin 32) : angles (F := Ideal) (ix2 i k) = ((ang i.val (2 * k.val) : ℝ) : EReal) := by
  pointwise [angles]
  rw [sitofp_of (posWord_eq i), freqs_apply, ← EReal.coe_mul]
  rw [ang, Nat.mod_eq_of_lt (by omega : 2 * k.val < 64)]

/-- Both columns of a pair read the pair's entry. -/
theorem twice_apply (t : FVec Ideal S1024x32 .f32) (i : Fin 1024) (e : Fin 64) :
    twice t (ix2 i e) = t (ix2 i ⟨e.val / 2, by omega⟩) := by
  pointwise [twice]

/-- A projection, by head and column. -/
theorem proj_apply (x : FVec Ideal S2x1024x512 .f32) (w : FVec Ideal S512x256 .f32) (b : Fin 2) (i : Fin 1024) (h : Fin 4) (e : Fin 64) :
    proj x w (ix4 b i h e) = lin (fun d => x (ix3 b i d)) (fun d n => w (ix2 d n)) (col h e) := by
  pointwise [proj]
  have hc : (⟨h.val * 64 + e.val, by omega⟩ : Fin 256) = col h e := Fin.ext (by simp only [col]; omega)
  rw [hc]
  rfl

/-- A table entry, whatever the batch and head. -/
theorem spread_apply (t : FVec Ideal S1024x64 .f32) (b : Fin 2) (i : Fin 1024) (h : Fin 4) (e : Fin 64) :
    spread t (ix4 b i h e) = t (ix2 i e) := by
  pointwise [spread]

/-- A pair turned by a right angle. -/
theorem turned_apply (p : FVec Ideal S2x1024x4x64 .f32) (b : Fin 2) (i : Fin 1024) (h : Fin 4) (e : Fin 64) :
    turned p (ix4 b i h e) = if hp : e.val % 2 = 1 then p (ix4 b i h ⟨e.val - 1, by omega⟩) else -p (ix4 b i h ⟨e.val + 1, by omega⟩) := by
  pointwise [turned, evens, odds]
  by_cases hp : e.val % 2 = 1
  · rw [dif_neg (by omega), dif_pos hp]
    exact congrArg (fun t => p (ix4 b i h t)) (Fin.ext (by simp only []; omega))
  · rw [dif_pos (by omega), dif_neg hp]
    exact congrArg (fun t => -p (ix4 b i h t)) (Fin.ext (by simp only []; omega))

/-- A pair's angle is that of either of its columns. -/
theorem ang_col (i : ℕ) (h : Fin 4) (e : Fin 64) : ang i (2 * (e.val / 2)) = ang i (col h e).val := by
  have he := e.isLt
  simp only [ang, freq, col]
  rw [show (64 * h.val + e.val) % 64 = e.val by omega, show 2 * (e.val / 2) % 64 = 2 * (e.val / 2) by omega,
    Nat.mul_div_cancel_left _ (by decide : 0 < 2)]

/-- The projection turned by the position's angles. -/
theorem rope_apply (x : FVec Ideal S2x1024x512 .f32) (w : FVec Ideal S512x256 .f32) (b : Fin 2) (i : Fin 1024) (h : Fin 4) (e : Fin 64) :
    rope (proj x w) (ix4 b i h e) = Cert.Attn.turned (fun i d => x (ix3 b i d)) (fun d n => w (ix2 d n)) i (col h e) := by
  pointwise [rope]
  rw [spread_apply, spread_apply, twice_apply, twice_apply, turned_apply]
  pointwise []
  rw [angles_apply, Ideal.cos_coe, Ideal.sin_coe, ang_col i.val h e, proj_apply]
  rw [Cert.Attn.turned, rot, turn]
  have he := e.isLt
  have hc : (col h e).val % 2 = e.val % 2 := by simp only [col]; omega
  by_cases hp : e.val % 2 = 1
  · have hm : mate (col h e) = col h ⟨e.val - 1, by omega⟩ := by
      rw [mate, if_pos (hc.trans hp)]; exact Fin.ext (by simp only [col]; omega)
    rw [dif_pos hp, if_pos (hc.trans hp), proj_apply, hm]
  · have hm : mate (col h e) = col h ⟨e.val + 1, by omega⟩ := by
      rw [mate, if_neg fun t => hp (hc.symm.trans t)]; exact Fin.ext (by simp only [col]; omega)
    rw [dif_neg hp, if_neg fun t => hp (hc.symm.trans t), proj_apply, hm]

/-- A score. -/
theorem scores_apply (q k : FVec Ideal S2x1024x4x64 .f32) (b : Fin 2) (h : Fin 4) (i j : Fin 1024) :
    scores q k (ix4 b h i j) = (∑ e : Fin 64, q (ix4 b i h e) * k (ix4 b j h e)) * (((1 : ℝ) / 8 : ℝ) : EReal) := by
  pointwise [scores]
  rw [word_eighth]

/-- The exponential of a score less its row's largest. -/
theorem expos_apply (s : FVec Ideal S2x4x1024x1024 .f32) (b : Fin 2) (h : Fin 4) (i j : Fin 1024) :
    expos s (ix4 b h i j) = Ideal.exp (s (ix4 b h i j) - Finset.univ.fold max ⊥ fun j' : Fin 1024 => s (ix4 b h i j')) := by
  pointwise [expos, along]
  rw [word_bot]

/-- A weight over its row's sum. -/
theorem normed_apply (s : FVec Ideal S2x4x1024x1024 .f32) (b : Fin 2) (h : Fin 4) (i j : Fin 1024) :
    normed s (ix4 b h i j) = Ideal.div (s (ix4 b h i j)) (∑ j' : Fin 1024, s (ix4 b h i j')) := by
  pointwise [normed, along]

/-- The values under the weights. -/
theorem mixed_apply (v : FVec Ideal S2x1024x4x64 .f32) (p : FVec Ideal S2x4x1024x1024 .f32) (b : Fin 2) (i : Fin 1024) (n : Fin 256) :
    mixed v p (ix3 b i n) = ∑ j : Fin 1024, v (ix4 b j (hd n) ⟨n.val % 64, by omega⟩) * p (ix4 b (hd n) i j) := by
  pointwise [mixed]
  rfl

/-- The last product. -/
theorem refOut_apply (x : FVec Ideal S2x1024x512 .f32) (wq wk wv : FVec Ideal S512x256 .f32) (wo : FVec Ideal S256x512 .f32)
    (b : Fin 2) (i : Fin 1024) (o : Fin 512) :
    refOut x wq wk wv wo (ix3 b i o)
      = ∑ n : Fin 256, mixed (proj x wv) (normed (expos (scores (rope (proj x wq)) (rope (proj x wk))))) (ix3 b i n) * wo (ix2 n o) := by
  pointwise [refOut]

/-- The reference's result is its mathematics, batch by batch. -/
theorem refOut_eq (x : FVec Ideal S2x1024x512 .f32) (wq wk wv : FVec Ideal S512x256 .f32) (wo : FVec Ideal S256x512 .f32)
    (b : Fin 2) (i : Fin 1024) (o : Fin 512) :
    refOut x wq wk wv wo (ix3 b i o)
      = Cert.Attn.rRes (fun i d => x (ix3 b i d)) (fun d n => wq (ix2 d n)) (fun d n => wk (ix2 d n)) (fun d n => wv (ix2 d n))
          (fun n o => wo (ix2 n o)) i o := by
  rw [refOut_apply, Cert.Attn.rRes]
  refine Finset.sum_congr rfl fun n _ => congrArg (· * wo (ix2 n o)) ?_
  rw [mixed_apply]
  refine Finset.sum_congr rfl fun j _ => ?_
  have hn : col (hd n) ⟨n.val % 64, Nat.mod_lt _ (by decide)⟩ = n := Fin.ext (by simp only [col, hd]; omega)
  rw [proj_apply, hn, normed_apply]
  simp only [expos_apply, scores_apply, rope_apply]
  rfl

end Cert.ReferenceIdeal.Val

end
-- ==== Proof.Equal.lean ====
/- The kernel's blocks are the reference's result, cut along the sequence. -/
module

public import proofs.«01_k».proof.Defs
public import proofs.«01_k».proof.Proof.Claims
public import proofs.«01_k».proof.Proof.Finite
public import proofs.«01_k».proof.Proof.KOut
public import proofs.«01_k».proof.Proof.RefVal

@[expose] public section

set_option maxRecDepth 16384

noncomputable section

namespace Cert.Proof

open Idealize.ShloMosaic Idealize.SL.Sem Cert.Attn
open Cert.KernelIdeal.Val (pos)

/-- A block's index is its device's row of the sequence. -/
theorem block_at (v : (⟨3, ![2, 1024, 512]⟩ : Shape).Idx → EReal) (c : Fin 8) (b : Fin 2) (r : Fin 128) (d : Fin 512) :
    Layout.block ⟨3, ![2, 128, 512]⟩ ⟨3, ![2, 1024, 512]⟩ 1 8 c v (h := by decide) (ix3 b r d) = v (ix3 b (pos c r) d) := by
  rw [Layout.block_apply]
  refine congrArg v (funext fun a => Fin.ext ?_)
  rw [Layout.Tiles.idx_val]
  fin_cases a
  · rfl
  · show c.val * 128 + r.val = 128 * c.val + r.val
    omega
  · rfl

/-- Every position lies in a device's block. -/
theorem pos_surj (i : Fin 1024) : ∃ (c : Fin 8) (r : Fin 128), pos c r = i :=
  ⟨⟨i.val / 128, by omega⟩, ⟨i.val % 128, by omega⟩, Fin.ext (by show 128 * (i.val / 128) + i.val % 128 = i.val; omega)⟩

/-- From the same whole arrays, every device ends with its block of the reference's result. -/
theorem algebraic : Cert.algebraic_KernelIdeal_ReferenceIdeal_pre_finite_KernelIdeal := by
  intro m g m' g' hpre hin
  let x : FVec Ideal Cert.ReferenceIdeal.S2x1024x512 .f32 := m' (((0 : Dev Cert.ReferenceIdeal.nD).tc : Thread _ Cert.ReferenceIdeal.τ).loc Cert.ReferenceIdeal.main_arg0)
  let wq : FVec Ideal Cert.ReferenceIdeal.S512x256 .f32 := m' (((0 : Dev Cert.ReferenceIdeal.nD).tc : Thread _ Cert.ReferenceIdeal.τ).loc Cert.ReferenceIdeal.main_arg1)
  let wk : FVec Ideal Cert.ReferenceIdeal.S512x256 .f32 := m' (((0 : Dev Cert.ReferenceIdeal.nD).tc : Thread _ Cert.ReferenceIdeal.τ).loc Cert.ReferenceIdeal.main_arg2)
  let wv : FVec Ideal Cert.ReferenceIdeal.S512x256 .f32 := m' (((0 : Dev Cert.ReferenceIdeal.nD).tc : Thread _ Cert.ReferenceIdeal.τ).loc Cert.ReferenceIdeal.main_arg3)
  let wo : FVec Ideal Cert.ReferenceIdeal.S256x512 .f32 := m' (((0 : Dev Cert.ReferenceIdeal.nD).tc : Thread _ Cert.ReferenceIdeal.τ).loc Cert.ReferenceIdeal.main_arg4)
  have hx : ∀ (c : Dev Cert.KernelIdeal.nD) (b : Fin 2) (r : Fin 128) (d : Fin 512),
      m ((c.tc : Thread Cert.KernelIdeal.nD Cert.KernelIdeal.τ).loc Cert.KernelIdeal.main_arg0) (ix3 b r d) = x (ix3 b (pos c r) d) :=
    fun c b r d => (congrFun (hin c).1 (ix3 b r d)).trans (block_at x c b r d)
  have rx : ∀ b i d, IsR (x (ix3 b i d)) := fun b i d => by
    obtain ⟨c, r, rfl⟩ := pos_surj i
    rw [← hx]
    exact (finite_real (hpre c)).1 _
  have rq : ∀ d n, IsR (wq (ix2 d n)) := fun d n => by
    have := (finite_real (hpre 0)).2.1 (ix2 d n)
    rwa [(hin 0).2.1] at this
  have rk : ∀ d n, IsR (wk (ix2 d n)) := fun d n => by
    have := (finite_real (hpre 0)).2.2 (ix2 d n)
    rwa [(hin 0).2.2.1] at this
  have hout : ∀ c : Dev Cert.KernelIdeal.nD, Cert.KernelIdeal.Proto.outAt m c
      = Layout.block ⟨3, ![2, 128, 512]⟩ ⟨3, ![2, 1024, 512]⟩ 1 8 c (Cert.ReferenceIdeal.Val.refOut x wq wk wv wo) (h := by decide) := by
    intro c
    funext i
    obtain ⟨b, r, o, rfl⟩ : ∃ (b : Fin 2) (r : Fin 128) (o : Fin 512), i = ix3 b r o := ⟨i 0, i 1, i 2, eq_ix3 i⟩
    rw [block_at, Cert.ReferenceIdeal.Val.refOut_eq, ← res_eq (rx b) rq rk]
    exact Cert.KernelIdeal.Val.outAt_eq m (fun b i d => x (ix3 b i d)) (fun d n => wq (ix2 d n)) (fun d n => wk (ix2 d n))
      (fun d n => wv (ix2 d n)) (fun n o => wo (ix2 n o))
      (fun o b r d => (Cert.KernelIdeal.Proto.iblk_0 m o _).trans (hx o b r d))
      (fun o d n => (Cert.KernelIdeal.Proto.iblk_1 m o _).trans (congrFun (hin o).2.1 _))
      (fun o d n => (Cert.KernelIdeal.Proto.iblk_2 m o _).trans (congrFun (hin o).2.2.1 _))
      (fun o d n => (Cert.KernelIdeal.Proto.iblk_3 m o _).trans (congrFun (hin o).2.2.2.1 _))
      (fun o n t => (Cert.KernelIdeal.Proto.iblk_4 m o _).trans (congrFun (hin o).2.2.2.2 _)) c b r o
  exact ⟨Cert.ReferenceIdeal.Val.refOut x wq wk wv wo,
    (θ_run (Cert.KernelIdeal.defs (F := Ideal)) _ _).mono (fun r h c => ⟨(h.1 c).1.trans (hout c), (h.1 c).2⟩)
      (Cert.KernelIdeal.Proto.run_out (F := Ideal) m g),
    (θ_run (Cert.ReferenceIdeal.defs (F := Ideal)) _ _).mono (fun r h => h 0) (Cert.ReferenceIdeal.Val.run (F := Ideal) m' g')⟩

/-- The ideal kernel's frame, under the precondition as well. -/
theorem frame_pi_pre : Cert.quiescent_KernelIdeal_pre_finite_KernelIdeal := fun m g _ => frame_pi m g trivial

/-- The reference's frame, under the precondition as well. -/
theorem frame_ri_pre : Cert.quiescent_ReferenceIdeal_pre_finite_ReferenceIdeal := fun m g _ => frame_ri m g trivial

end Cert.Proof

end
-- ==== Proof.lean ====
/- The certificate's claim, assembled from the frames, the named constant and the equality of results. -/
module

public import proofs.«01_k».proof.Defs
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, finK, finR,
    frame_p, frame_pi, frame_pi_pre, frame_ri, frame_ri_pre, preserves, algebraic⟩

end Cert.Proof

end
